-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v69_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v69_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S16x4096x16x64 : Shape := ⟨4, ![16, 4096, 16, 64]⟩
abbrev S16x4096x2x64 : Shape := ⟨4, ![16, 4096, 2, 64]⟩
abbrev S16 : Shape := ⟨1, ![16]⟩
abbrev S_ : Shape := ⟨0, ![]⟩
abbrev S16x16x4096x64 : Shape := ⟨4, ![16, 16, 4096, 64]⟩
abbrev S16x2x4096x64 : Shape := ⟨4, ![16, 2, 4096, 64]⟩
abbrev S16x4096x2x1 : Shape := ⟨4, ![16, 4096, 2, 1]⟩
abbrev S16x4096x2x63 : Shape := ⟨4, ![16, 4096, 2, 63]⟩
abbrev S16x4096x2x128 : Shape := ⟨4, ![16, 4096, 2, 128]⟩
abbrev S16x2x128x4096 : Shape := ⟨4, ![16, 2, 128, 4096]⟩
abbrev S16x4096x1024 : Shape := ⟨3, ![16, 4096, 1024]⟩
abbrev S1x8x256x64 : Shape := ⟨4, ![1, 8, 256, 64]⟩
abbrev S1x1x4096x64 : Shape := ⟨4, ![1, 1, 4096, 64]⟩
abbrev S1x1x128x4096 : Shape := ⟨4, ![1, 1, 128, 4096]⟩
abbrev S1x256x512 : Shape := ⟨3, ![1, 256, 512]⟩
abbrev S8x256x64 : Shape := ⟨3, ![8, 256, 64]⟩
abbrev S2048x64 : Shape := ⟨2, ![2048, 64]⟩
abbrev S1x256 : Shape := ⟨2, ![1, 256]⟩
abbrev S384x1 : Shape := ⟨2, ![384, 1]⟩
abbrev S384x256 : Shape := ⟨2, ![384, 256]⟩
abbrev S1x1x384x64 : Shape := ⟨4, ![1, 1, 384, 64]⟩
abbrev S384x64 : Shape := ⟨2, ![384, 64]⟩
abbrev S384x2048 : Shape := ⟨2, ![384, 2048]⟩
abbrev S1x2048 : Shape := ⟨2, ![1, 2048]⟩
abbrev S1 : Shape := ⟨1, ![1]⟩
abbrev S2048 : Shape := ⟨1, ![2048]⟩
abbrev S1x1x128x384 : Shape := ⟨4, ![1, 1, 128, 384]⟩
abbrev S128x384 : Shape := ⟨2, ![128, 384]⟩
abbrev S128x2048 : Shape := ⟨2, ![128, 2048]⟩
abbrev S64x2048 : Shape := ⟨2, ![64, 2048]⟩
abbrev S64x256 : Shape := ⟨2, ![64, 256]⟩
abbrev S512x256 : Shape := ⟨2, ![512, 256]⟩
abbrev S256x512 : Shape := ⟨2, ![256, 512]⟩

abbrev nBuf : Space → Nat
  | .hbm => 19
  | .vmem => 8
  | .smem => 1
  | _ => 0

abbrev bufTy : (tb : Table) → Fin (tcTables nBuf tb) → BufTy
  | .hbm, ⟨0, _⟩ => ⟨S16x4096x16x64, .f32⟩
  | .hbm, ⟨1, _⟩ => ⟨S16x4096x2x64, .f32⟩
  | .hbm, ⟨2, _⟩ => ⟨S16x4096x2x64, .f32⟩
  | .hbm, ⟨3, _⟩ => ⟨S16, .f32⟩
  | .hbm, ⟨4, _⟩ => ⟨S_, .f32⟩
  | .hbm, ⟨5, _⟩ => ⟨S16x4096x16x64, .f32⟩
  | .hbm, ⟨6, _⟩ => ⟨S16x4096x16x64, .f32⟩
  | .hbm, ⟨7, _⟩ => ⟨S16x16x4096x64, .f32⟩
  | .hbm, ⟨8, _⟩ => ⟨S16x16x4096x64, .bf16⟩
  | .hbm, ⟨9, _⟩ => ⟨S16x2x4096x64, .f32⟩
  | .hbm, ⟨10, _⟩ => ⟨S16x2x4096x64, .bf16⟩
  | .hbm, ⟨11, _⟩ => ⟨S_, .f32⟩
  | .hbm, ⟨12, _⟩ => ⟨S16x4096x2x1, .f32⟩
  | .hbm, ⟨13, _⟩ => ⟨S_, .f32⟩
  | .hbm, ⟨14, _⟩ => ⟨S16x4096x2x63, .f32⟩
  | .hbm, ⟨15, _⟩ => ⟨S16x4096x2x128, .f32⟩
  | .hbm, ⟨16, _⟩ => ⟨S16x2x128x4096, .f32⟩
  | .hbm, ⟨17, _⟩ => ⟨S16x2x128x4096, .bf16⟩
  | .hbm, ⟨18, _⟩ => ⟨S16x4096x1024, .bf16⟩
  | .local _ .vmem, ⟨0, _⟩ => ⟨S1x8x256x64, .bf16⟩
  | .local _ .vmem, ⟨1, _⟩ => ⟨S1x8x256x64, .bf16⟩
  | .local _ .vmem, ⟨2, _⟩ => ⟨S1x1x4096x64, .bf16⟩
  | .local _ .vmem, ⟨3, _⟩ => ⟨S1x1x4096x64, .bf16⟩
  | .local _ .vmem, ⟨4, _⟩ => ⟨S1x1x128x4096, .bf16⟩
  | .local _ .vmem, ⟨5, _⟩ => ⟨S1x1x128x4096, .bf16⟩
  | .local _ .vmem, ⟨6, _⟩ => ⟨S1x256x512, .bf16⟩
  | .local _ .vmem, ⟨7, _⟩ => ⟨S1x256x512, .bf16⟩
  | .local _ .smem, ⟨0, _⟩ => ⟨S16, .f32⟩
  | _, _ => ⟨S16x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 2, 16], ![false, false, false]⟩

def k0_mult1 (i : grid0.Coords) : BitVec 32 :=
  let arg2 : BitVec 32 := BitVec.ofNat 32 (i 2).val
  let c256_i32 : BitVec 32 := 256#32
  let v0 : BitVec 32 := Scalar.muli arg2 c256_i32
  let c128_i32 : BitVec 32 := 128#32
  let v7 : BitVec 32 := Scalar.subi v0 c128_i32
  let c0_i32 : BitVec 32 := 0#32
  let v8 : BitVec 32 := Scalar.maxsi v7 c0_i32
  v8
def k0_off1 (i : grid0.Coords) : Fin 4 → Nat :=
  let c0_5 : Index := 0#32
  let c0_6 : Index := 0#32
  let arg2 : BitVec 32 := BitVec.ofNat 32 (i 2).val
  let c256_i32 : BitVec 32 := 256#32
  let v0 : BitVec 32 := Scalar.muli arg2 c256_i32
  let c128_i32 : BitVec 32 := 128#32
  let v7 : BitVec 32 := Scalar.subi v0 c128_i32
  let c0_i32 : BitVec 32 := 0#32
  let v8 : BitVec 32 := Scalar.maxsi v7 c0_i32
  let v9 : BitVec 32 := v8
  let v25 : Index := Scalar.indexCast v9
  let c0_7 : Index := 0#32
  ![0, 0, v25.toNat, 0]
def k0_off2 (i : grid0.Coords) (c0_i32_17 : BitVec 32) : Fin 1 → Nat :=
  let arg1 : BitVec 32 := BitVec.ofNat 32 (i 1).val
  let c8_i32 : BitVec 32 := 8#32
  let v59 : BitVec 32 := Scalar.muli arg1 c8_i32
  let v60 : BitVec 32 := Scalar.addi v59 c0_i32_17
  let v61 : Index := Scalar.indexCast v60
  ![v61.toNat]
def k0_off3 (i : grid0.Coords) : Fin 4 → Nat :=
  let c0_34 : Index := 0#32
  let c0_35 : Index := 0#32
  let c0_36 : Index := 0#32
  let arg2 : BitVec 32 := BitVec.ofNat 32 (i 2).val
  let c256_i32 : BitVec 32 := 256#32
  let v0 : BitVec 32 := Scalar.muli arg2 c256_i32
  let c128_i32 : BitVec 32 := 128#32
  let v7 : BitVec 32 := Scalar.subi v0 c128_i32
  let c0_i32 : BitVec 32 := 0#32
  let v8 : BitVec 32 := Scalar.maxsi v7 c0_i32
  let v9 : BitVec 32 := v8
  let v128 : Index := Scalar.indexCast v9
  ![0, 0, 0, v128.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x8x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16x4096x16x64 : Shape := ⟨4, ![16, 4096, 16, 64]⟩
abbrev S16x4096x2x64 : Shape := ⟨4, ![16, 4096, 2, 64]⟩
abbrev S16 : Shape := ⟨1, ![16]⟩
abbrev S16x4096x2x8x64 : Shape := ⟨5, ![16, 4096, 2, 8, 64]⟩
abbrev S2x8 : Shape := ⟨2, ![2, 8]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S16x2x4096x4096x8 : Shape := ⟨5, ![16, 2, 4096, 4096, 8]⟩
abbrev S16x4096x2x8x4096 : Shape := ⟨5, ![16, 4096, 2, 8, 4096]⟩
abbrev S1x4096x1x1x4096 : Shape := ⟨5, ![1, 4096, 1, 1, 4096]⟩
abbrev S16x4096x2x8 : Shape := ⟨4, ![16, 4096, 2, 8]⟩
abbrev S1x1x2x8 : Shape := ⟨4, ![1, 1, 2, 8]⟩
abbrev S16x4096x2x8x1 : Shape := ⟨5, ![16, 4096, 2, 8, 1]⟩
abbrev S16x2x64x4096x8 : Shape := ⟨5, ![16, 2, 64, 4096, 8]⟩
abbrev S16x4096x1024 : Shape := ⟨3, ![16, 4096, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16x4096x16x64, .f32⟩
  | .hbm, ⟨1, _⟩ => ⟨S16x4096x2x64, .f32⟩
  | .hbm, ⟨2, _⟩ => ⟨S16x4096x2x64, .f32⟩
  | .hbm, ⟨3, _⟩ => ⟨S16, .f32⟩
  | .hbm, ⟨4, _⟩ => ⟨S16x4096x2x8x64, .f32⟩
  | .hbm, ⟨5, _⟩ => ⟨S2x8, .f32⟩
  | .hbm, ⟨6, _⟩ => ⟨S4096, .i32⟩
  | .hbm, ⟨7, _⟩ => ⟨S1x4096, .i32⟩
  | .hbm, ⟨8, _⟩ => ⟨S4096x1, .i32⟩
  | .hbm, ⟨9, _⟩ => ⟨S4096x4096, .i32⟩
  | .hbm, ⟨10, _⟩ => ⟨S4096x4096, .i32⟩
  | .hbm, ⟨11, _⟩ => ⟨S4096x4096, .i1⟩
  | .hbm, ⟨12, _⟩ => ⟨S1x4096, .i32⟩
  | .hbm, ⟨13, _⟩ => ⟨S4096x1, .i32⟩
  | .hbm, ⟨14, _⟩ => ⟨S_, .i32⟩
  | .hbm, ⟨15, _⟩ => ⟨S4096x1, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S4096x4096, .i1⟩
  | .hbm, ⟨21, _⟩ => ⟨S16x2x4096x4096x8, .f32⟩
  | .hbm, ⟨22, _⟩ => ⟨S16x4096x2x8x4096, .f32⟩
  | .hbm, ⟨23, _⟩ => ⟨S_, .f32⟩
  | .hbm, ⟨24, _⟩ => ⟨S16x4096x2x8x4096, .f32⟩
  | .hbm, ⟨25, _⟩ => ⟨S16x4096x2x8x4096, .f32⟩
  | .hbm, ⟨26, _⟩ => ⟨S1x4096x1x1x4096, .i1⟩
  | .hbm, ⟨27, _⟩ => ⟨S_, .f32⟩
  | .hbm, ⟨28, _⟩ => ⟨S_, .f32⟩
  | .hbm, ⟨29, _⟩ => ⟨S16x4096x2x8x4096, .i1⟩
  | .hbm, ⟨30, _⟩ => ⟨S16x4096x2x8x4096, .f32⟩
  | .hbm, ⟨31, _⟩ => ⟨S16x4096x2x8x4096, .f32⟩
  | .hbm, ⟨32, _⟩ => ⟨S_, .f32⟩
  | .hbm, ⟨33, _⟩ => ⟨S16x4096x2x8, .f32⟩
  | .hbm, ⟨34, _⟩ => ⟨S1x1x2x8, .f32⟩
  | .hbm, ⟨35, _⟩ => ⟨S16x4096x2x8, .f32⟩
  | .hbm, ⟨36, _⟩ => ⟨S16x4096x2x8, .f32⟩
  | .hbm, ⟨37, _⟩ => ⟨S16x4096x2x8x1, .f32⟩
  | .hbm, ⟨38, _⟩ => ⟨S16x4096x2x8x4096, .f32⟩
  | .hbm, ⟨39, _⟩ => ⟨S16x4096x2x8x4096, .f32⟩
  | .hbm, ⟨40, _⟩ => ⟨S16x4096x2x8x4096, .f32⟩
  | .hbm, ⟨41, _⟩ => ⟨S_, .f32⟩
  | .hbm, ⟨42, _⟩ => ⟨S16x4096x2x8, .f32⟩
  | .hbm, ⟨43, _⟩ => ⟨S1x1x2x8, .f32⟩
  | .hbm, ⟨44, _⟩ => ⟨S16x4096x2x8, .f32⟩
  | .hbm, ⟨45, _⟩ => ⟨S16x4096x2x8, .f32⟩
  | .hbm, ⟨46, _⟩ => ⟨S16x4096x2x8, .f32⟩
  | .hbm, ⟨47, _⟩ => ⟨S16x4096x2x8, .f32⟩
  | .hbm, ⟨48, _⟩ => ⟨S16x2x64x4096x8, .f32⟩
  | .hbm, ⟨49, _⟩ => ⟨S16x4096x2x8x64, .f32⟩
  | .hbm, ⟨50, _⟩ => ⟨S16x4096x2x8x1, .f32⟩
  | .hbm, ⟨51, _⟩ => ⟨S16x4096x2x8x64, .f32⟩
  | .hbm, ⟨52, _⟩ => ⟨S16x4096x2x8x64, .f32⟩
  | .hbm, ⟨53, _⟩ => ⟨S16x4096x1024, .f32⟩
  | .hbm, ⟨54, _⟩ => ⟨S16x4096x1024, .bf16⟩
  | _, _ => ⟨S16x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Kernel2.lean ====
abbrev S288x512x1024 : Shape := ⟨3, ![288, 512, 1024]⟩
abbrev S32 : Shape := ⟨1, ![32]⟩
abbrev S2x32x1024x512 : Shape := ⟨4, ![2, 32, 1024, 512]⟩
abbrev S2x32x512x1024 : Shape := ⟨4, ![2, 32, 512, 1024]⟩
abbrev S288 : Shape := ⟨1, ![288]⟩
abbrev S_ : Shape := ⟨0, ![]⟩
abbrev S1x32 : Shape := ⟨2, ![1, 32]⟩
abbrev S288x1 : Shape := ⟨2, ![288, 1]⟩
abbrev S288x32 : Shape := ⟨2, ![288, 32]⟩
abbrev S1179648x128 : Shape := ⟨2, ![1179648, 128]⟩
abbrev S4096x128 : Shape := ⟨2, ![4096, 128]⟩
abbrev S1x1x1024x512 : Shape := ⟨4, ![1, 1, 1024, 512]⟩
abbrev S1 : Shape := ⟨1, ![1]⟩
abbrev S1x1x512x1024 : Shape := ⟨4, ![1, 1, 512, 1024]⟩
abbrev S1024x512 : Shape := ⟨2, ![1024, 512]⟩
abbrev S512x1024 : Shape := ⟨2, ![512, 1024]⟩
abbrev S512x128 : Shape := ⟨2, ![512, 128]⟩
abbrev S512x512 : Shape := ⟨2, ![512, 512]⟩

abbrev nBuf : Space → Nat
  | .hbm => 21
  | .vmem => 13
  | .smem => 1
  | _ => 0

abbrev bufTy : (tb : Table) → Fin (tcTables nBuf tb) → BufTy
  | .hbm, ⟨0, _⟩ => ⟨S288x512x1024, .f32⟩
  | .hbm, ⟨1, _⟩ => ⟨S32, .i32⟩
  | .hbm, ⟨2, _⟩ => ⟨S2x32x1024x512, .f32⟩
  | .hbm, ⟨3, _⟩ => ⟨S2x32x1024x512, .f32⟩
  | .hbm, ⟨4, _⟩ => ⟨S2x32x512x1024, .f32⟩
  | .hbm, ⟨5, _⟩ => ⟨S288, .i32⟩
  | .hbm, ⟨6, _⟩ => ⟨S_, .i32⟩
  | .hbm, ⟨7, _⟩ => ⟨S288, .i32⟩
  | .hbm, ⟨8, _⟩ => ⟨S288, .i32⟩
  | .hbm, ⟨9, _⟩ => ⟨S1x32, .i32⟩
  | .hbm, ⟨10, _⟩ => ⟨S288x1, .i32⟩
  | .hbm, ⟨11, _⟩ => ⟨S288x32, .i32⟩
  | .hbm, ⟨12, _⟩ => ⟨S288x32, .i32⟩
  | .hbm, ⟨13, _⟩ => ⟨S288x32, .i1⟩
  | .hbm, ⟨14, _⟩ => ⟨S288x32, .i32⟩
  | .hbm, ⟨15, _⟩ => ⟨S_, .i32⟩
  | .hbm, ⟨16, _⟩ => ⟨S288, .i32⟩
  | .hbm, ⟨17, _⟩ => ⟨S_, .i32⟩
  | .hbm, ⟨18, _⟩ => ⟨S288, .i32⟩
  | .hbm, ⟨19, _⟩ => ⟨S1179648x128, .f32⟩
  | .hbm, ⟨20, _⟩ => ⟨S1179648x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S4096x128, .f32⟩
  | .local _ .vmem, ⟨9, _⟩ => ⟨S4096x128, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S288, .i32⟩
  | _, _ => ⟨S288x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v12 : Ref sig .tc := ⟨.hbm, 19, rfl⟩
abbrev main_v13 : Ref sig .tc := ⟨.hbm, 20, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S288x512x1024 : Shape := ⟨3, ![288, 512, 1024]⟩
abbrev S32 : Shape := ⟨1, ![32]⟩
abbrev S2x32x1024x512 : Shape := ⟨4, ![2, 32, 1024, 512]⟩
abbrev S2x32x512x1024 : Shape := ⟨4, ![2, 32, 512, 1024]⟩
abbrev S288 : Shape := ⟨1, ![288]⟩
abbrev S_ : Shape := ⟨0, ![]⟩
abbrev S1x32 : Shape := ⟨2, ![1, 32]⟩
abbrev S288x1 : Shape := ⟨2, ![288, 1]⟩
abbrev S288x32 : Shape := ⟨2, ![288, 32]⟩
abbrev S1x32x1024x512 : Shape := ⟨4, ![1, 32, 1024, 512]⟩
abbrev S32x1024x512 : Shape := ⟨3, ![32, 1024, 512]⟩
abbrev S288x1024x512 : Shape := ⟨3, ![288, 1024, 512]⟩
abbrev S288x512x512 : Shape := ⟨3, ![288, 512, 512]⟩
abbrev S1x32x512x1024 : Shape := ⟨4, ![1, 32, 512, 1024]⟩
abbrev S32x512x1024 : Shape := ⟨3, ![32, 512, 1024]⟩
abbrev S1179648x128 : Shape := ⟨2, ![1179648, 128]⟩

abbrev nBuf : Space → Nat
  | .hbm => 67
  | .vmem => 0
  | .smem => 0
  | _ => 0

abbrev bufTy : (tb : Table) → Fin (tcTables nBuf tb) → BufTy
  | .hbm, ⟨0, _⟩ => ⟨S288x512x1024, .f32⟩
  | .hbm, ⟨1, _⟩ => ⟨S32, .i32⟩
  | .hbm, ⟨2, _⟩ => ⟨S2x32x1024x512, .f32⟩
  | .hbm, ⟨3, _⟩ => ⟨S2x32x1024x512, .f32⟩
  | .hbm, ⟨4, _⟩ => ⟨S2x32x512x1024, .f32⟩
  | .hbm, ⟨5, _⟩ => ⟨S288, .i32⟩
  | .hbm, ⟨6, _⟩ => ⟨S_, .i32⟩
  | .hbm, ⟨7, _⟩ => ⟨S288, .i32⟩
  | .hbm, ⟨8, _⟩ => ⟨S288, .i32⟩
  | .hbm, ⟨9, _⟩ => ⟨S1x32, .i32⟩
  | .hbm, ⟨10, _⟩ => ⟨S288x1, .i32⟩
  | .hbm, ⟨11, _⟩ => ⟨S288x32, .i32⟩
  | .hbm, ⟨12, _⟩ => ⟨S288x32, .i32⟩
  | .hbm, ⟨13, _⟩ => ⟨S288x32, .i1⟩
  | .hbm, ⟨14, _⟩ => ⟨S288x32, .i32⟩
  | .hbm, ⟨15, _⟩ => ⟨S_, .i32⟩
  | .hbm, ⟨16, _⟩ => ⟨S288, .i32⟩
  | .hbm, ⟨17, _⟩ => ⟨S_, .i32⟩
  | .hbm, ⟨18, _⟩ => ⟨S288, .i32⟩
  | .hbm, ⟨19, _⟩ => ⟨S288, .i32⟩
  | .hbm, ⟨20, _⟩ => ⟨S1x32x1024x512, .f32⟩
  | .hbm, ⟨21, _⟩ => ⟨S32x1024x512, .f32⟩
  | .hbm, ⟨22, _⟩ => ⟨S_, .i32⟩
  | .hbm, ⟨23, _⟩ => ⟨S288, .i32⟩
  | .hbm, ⟨24, _⟩ => ⟨S288, .i1⟩
  | .hbm, ⟨25, _⟩ => ⟨S_, .i32⟩
  | .hbm, ⟨26, _⟩ => ⟨S288, .i32⟩
  | .hbm, ⟨27, _⟩ => ⟨S288, .i32⟩
  | .hbm, ⟨28, _⟩ => ⟨S288, .i32⟩
  | .hbm, ⟨29, _⟩ => ⟨S288x1, .i32⟩
  | .hbm, ⟨30, _⟩ => ⟨S288x1024x512, .f32⟩
  | .hbm, ⟨31, _⟩ => ⟨S288x512x512, .f32⟩
  | .hbm, ⟨32, _⟩ => ⟨S288x512x512, .f32⟩
  | .hbm, ⟨33, _⟩ => ⟨S288x512x512, .f32⟩
  | .hbm, ⟨34, _⟩ => ⟨S_, .f32⟩
  | .hbm, ⟨35, _⟩ => ⟨S288x512x512, .f32⟩
  | .hbm, ⟨36, _⟩ => ⟨S288x512x512, .f32⟩
  | .hbm, ⟨37, _⟩ => ⟨S_, .f32⟩
  | .hbm, ⟨38, _⟩ => ⟨S288x512x512, .f32⟩
  | .hbm, ⟨39, _⟩ => ⟨S288x512x512, .f32⟩
  | .hbm, ⟨40, _⟩ => ⟨S288x512x512, .f32⟩
  | .hbm, ⟨41, _⟩ => ⟨S1x32x1024x512, .f32⟩
  | .hbm, ⟨42, _⟩ => ⟨S32x1024x512, .f32⟩
  | .hbm, ⟨43, _⟩ => ⟨S_, .i32⟩
  | .hbm, ⟨44, _⟩ => ⟨S288, .i32⟩
  | .hbm, ⟨45, _⟩ => ⟨S288, .i1⟩
  | .hbm, ⟨46, _⟩ => ⟨S_, .i32⟩
  | .hbm, ⟨47, _⟩ => ⟨S288, .i32⟩
  | .hbm, ⟨48, _⟩ => ⟨S288, .i32⟩
  | .hbm, ⟨49, _⟩ => ⟨S288, .i32⟩
  | .hbm, ⟨50, _⟩ => ⟨S288x1, .i32⟩
  | .hbm, ⟨51, _⟩ => ⟨S288x1024x512, .f32⟩
  | .hbm, ⟨52, _⟩ => ⟨S288x512x512, .f32⟩
  | .hbm, ⟨53, _⟩ => ⟨S288x512x512, .f32⟩
  | .hbm, ⟨54, _⟩ => ⟨S1x32x512x1024, .f32⟩
  | .hbm, ⟨55, _⟩ => ⟨S32x512x1024, .f32⟩
  | .hbm, ⟨56, _⟩ => ⟨S_, .i32⟩
  | .hbm, ⟨57, _⟩ => ⟨S288, .i32⟩
  | .hbm, ⟨58, _⟩ => ⟨S288, .i1⟩
  | .hbm, ⟨59, _⟩ => ⟨S_, .i32⟩
  | .hbm, ⟨60, _⟩ => ⟨S288, .i32⟩
  | .hbm, ⟨61, _⟩ => ⟨S288, .i32⟩
  | .hbm, ⟨62, _⟩ => ⟨S288, .i32⟩
  | .hbm, ⟨63, _⟩ => ⟨S288x1, .i32⟩
  | .hbm, ⟨64, _⟩ => ⟨S288x512x1024, .f32⟩
  | .hbm, ⟨65, _⟩ => ⟨S288x512x1024, .f32⟩
  | .hbm, ⟨66, _⟩ => ⟨S1179648x128, .f32⟩
  | _, _ => ⟨S288x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]
-- ==== Kernel3.lean ====
abbrev S65536x512 : Shape := ⟨2, ![65536, 512]⟩
abbrev S1024x1024 : Shape := ⟨2, ![1024, 1024]⟩
abbrev S65536x1024 : Shape := ⟨2, ![65536, 1024]⟩
abbrev S512x512 : Shape := ⟨2, ![512, 512]⟩
abbrev S512x1024 : Shape := ⟨2, ![512, 1024]⟩

abbrev nBuf : Space → Nat
  | .hbm => 8
  | .vmem => 10
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S1024x1024, .f32⟩
  | .hbm, ⟨3, _⟩ => ⟨S65536x1024, .f32⟩
  | .hbm, ⟨4, _⟩ => ⟨S65536x512, .bf16⟩
  | .hbm, ⟨5, _⟩ => ⟨S65536x512, .bf16⟩
  | .hbm, ⟨6, _⟩ => ⟨S1024x1024, .bf16⟩
  | .hbm, ⟨7, _⟩ => ⟨S65536x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S65536x512 : Shape := ⟨2, ![65536, 512]⟩
abbrev S1024x1024 : Shape := ⟨2, ![1024, 1024]⟩
abbrev S65536x1024 : Shape := ⟨2, ![65536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S1024x1024, .f32⟩
  | .hbm, ⟨3, _⟩ => ⟨S65536x1024, .f32⟩
  | .hbm, ⟨4, _⟩ => ⟨S65536x1024, .f32⟩
  | .hbm, ⟨5, _⟩ => ⟨S65536x1024, .f32⟩
  | .hbm, ⟨6, _⟩ => ⟨S65536x1024, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel4.lean ====
abbrev S65536x1024 : Shape := ⟨2, ![65536, 1024]⟩
abbrev S1024 : Shape := ⟨1, ![1024]⟩
abbrev S1024x3352 : Shape := ⟨2, ![1024, 3352]⟩
abbrev S64 : Shape := ⟨1, ![64]⟩
abbrev S3x64 : Shape := ⟨2, ![3, 64]⟩
abbrev S128x128 : Shape := ⟨2, ![128, 128]⟩
abbrev S_ : Shape := ⟨0, ![]⟩
abbrev S1024x116 : Shape := ⟨2, ![1024, 116]⟩
abbrev S1024x2048 : Shape := ⟨2, ![1024, 2048]⟩
abbrev S1024x128 : Shape := ⟨2, ![1024, 128]⟩
abbrev S1024x12 : Shape := ⟨2, ![1024, 12]⟩
abbrev S1024x512 : Shape := ⟨2, ![1024, 512]⟩
abbrev S1024x3584 : Shape := ⟨2, ![1024, 3584]⟩
abbrev S1x64 : Shape := ⟨2, ![1, 64]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S2x64 : Shape := ⟨2, ![2, 64]⟩
abbrev S128 : Shape := ⟨1, ![128]⟩
abbrev S1x128 : Shape := ⟨2, ![1, 128]⟩
abbrev S5x128 : Shape := ⟨2, ![5, 128]⟩
abbrev S1x1024 : Shape := ⟨2, ![1, 1024]⟩
abbrev S65536x2560 : Shape := ⟨2, ![65536, 2560]⟩
abbrev S16x8x4096x128 : Shape := ⟨4, ![16, 8, 4096, 128]⟩
abbrev S16x2x4096x128 : Shape := ⟨4, ![16, 2, 4096, 128]⟩
abbrev S16x2x128x4096 : Shape := ⟨4, ![16, 2, 128, 4096]⟩
abbrev S512x1024 : Shape := ⟨2, ![512, 1024]⟩
abbrev S512x128 : Shape := ⟨2, ![512, 128]⟩
abbrev S512x2560 : Shape := ⟨2, ![512, 2560]⟩
abbrev S1x8x512x128 : Shape := ⟨4, ![1, 8, 512, 128]⟩
abbrev S1x2x512x128 : Shape := ⟨4, ![1, 2, 512, 128]⟩
abbrev S1x2x128x512 : Shape := ⟨4, ![1, 2, 128, 512]⟩
abbrev S512 : Shape := ⟨1, ![512]⟩
abbrev S512x1 : Shape := ⟨2, ![512, 1]⟩
abbrev S512x512 : Shape := ⟨2, ![512, 512]⟩
abbrev S1x1x512x128 : Shape := ⟨4, ![1, 1, 512, 128]⟩
abbrev S128x512 : Shape := ⟨2, ![128, 512]⟩
abbrev S1x1x128x512 : Shape := ⟨4, ![1, 1, 128, 512]⟩

abbrev nBuf : Space → Nat
  | .hbm => 89
  | .vmem => 22
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3352, .f32⟩
  | .hbm, ⟨3, _⟩ => ⟨S64, .f32⟩
  | .hbm, ⟨4, _⟩ => ⟨S3x64, .f32⟩
  | .hbm, ⟨5, _⟩ => ⟨S128x128, .bf16⟩
  | .hbm, ⟨6, _⟩ => ⟨S_, .f32⟩
  | .hbm, ⟨7, _⟩ => ⟨S1024x116, .f32⟩
  | .hbm, ⟨8, _⟩ => ⟨S1024x2048, .f32⟩
  | .hbm, ⟨9, _⟩ => ⟨S1024x128, .f32⟩
  | .hbm, ⟨10, _⟩ => ⟨S1024x128, .f32⟩
  | .hbm, ⟨11, _⟩ => ⟨S1024x12, .f32⟩
  | .hbm, ⟨12, _⟩ => ⟨S1024x12, .f32⟩
  | .hbm, ⟨13, _⟩ => ⟨S1024x512, .f32⟩
  | .hbm, ⟨14, _⟩ => ⟨S1024x128, .f32⟩
  | .hbm, ⟨15, _⟩ => ⟨S1024x128, .f32⟩
  | .hbm, ⟨16, _⟩ => ⟨S1024x128, .f32⟩
  | .hbm, ⟨17, _⟩ => ⟨S1024x128, .f32⟩
  | .hbm, ⟨18, _⟩ => ⟨S1024x3584, .f32⟩
  | .hbm, ⟨19, _⟩ => ⟨S1024x3584, .bf16⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S4096, .i32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S4096, .f32⟩
  | .hbm, ⟨37, _⟩ => ⟨S4096x1, .f32⟩
  | .hbm, ⟨38, _⟩ => ⟨S1x8, .f32⟩
  | .hbm, ⟨39, _⟩ => ⟨S4096x8, .f32⟩
  | .hbm, ⟨40, _⟩ => ⟨S4096x8, .f32⟩
  | .hbm, ⟨41, _⟩ => ⟨S4096x8, .f32⟩
  | .hbm, ⟨42, _⟩ => ⟨S4096x8, .f32⟩
  | .hbm, ⟨43, _⟩ => ⟨S4096x8, .f32⟩
  | .hbm, ⟨44, _⟩ => ⟨S_, .f32⟩
  | .hbm, ⟨45, _⟩ => ⟨S4096x48, .f32⟩
  | .hbm, ⟨46, _⟩ => ⟨S4096x64, .f32⟩
  | .hbm, ⟨47, _⟩ => ⟨S4096x8, .f32⟩
  | .hbm, ⟨48, _⟩ => ⟨S_, .f32⟩
  | .hbm, ⟨49, _⟩ => ⟨S4096x48, .f32⟩
  | .hbm, ⟨50, _⟩ => ⟨S4096x64, .f32⟩
  | .hbm, ⟨51, _⟩ => ⟨S1x4096x1x64, .f32⟩
  | .hbm, ⟨52, _⟩ => ⟨S1x4096x2x64, .f32⟩
  | .hbm, ⟨53, _⟩ => ⟨S4096x128, .f32⟩
  | .hbm, ⟨54, _⟩ => ⟨S1x4096x1x64, .f32⟩
  | .hbm, ⟨55, _⟩ => ⟨S1x4096x2x64, .f32⟩
  | .hbm, ⟨56, _⟩ => ⟨S4096x128, .f32⟩
  | .hbm, ⟨57, _⟩ => ⟨S1x64, .f32⟩
  | .hbm, ⟨58, _⟩ => ⟨S2x64, .f32⟩
  | .hbm, ⟨59, _⟩ => ⟨S128, .f32⟩
  | .hbm, ⟨60, _⟩ => ⟨S1x64, .f32⟩
  | .hbm, ⟨61, _⟩ => ⟨S2x64, .f32⟩
  | .hbm, ⟨62, _⟩ => ⟨S128, .f32⟩
  | .hbm, ⟨63, _⟩ => ⟨S1x64, .f32⟩
  | .hbm, ⟨64, _⟩ => ⟨S2x64, .f32⟩
  | .hbm, ⟨65, _⟩ => ⟨S128, .f32⟩
  | .hbm, ⟨66, _⟩ => ⟨S_, .f32⟩
  | .hbm, ⟨67, _⟩ => ⟨S64, .f32⟩
  | .hbm, ⟨68, _⟩ => ⟨S1x64, .f32⟩
  | .hbm, ⟨69, _⟩ => ⟨S2x64, .f32⟩
  | .hbm, ⟨70, _⟩ => ⟨S128, .f32⟩
  | .hbm, ⟨71, _⟩ => ⟨S_, .f32⟩
  | .hbm, ⟨72, _⟩ => ⟨S64, .f32⟩
  | .hbm, ⟨73, _⟩ => ⟨S1x64, .f32⟩
  | .hbm, ⟨74, _⟩ => ⟨S2x64, .f32⟩
  | .hbm, ⟨75, _⟩ => ⟨S128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S5x128, .f32⟩
  | .hbm, ⟨82, _⟩ => ⟨S1x1024, .f32⟩
  | .hbm, ⟨83, _⟩ => ⟨S65536x2560, .f32⟩
  | .hbm, ⟨84, _⟩ => ⟨S16x8x4096x128, .bf16⟩
  | .hbm, ⟨85, _⟩ => ⟨S16x2x4096x128, .bf16⟩
  | .hbm, ⟨86, _⟩ => ⟨S16x2x4096x128, .bf16⟩
  | .hbm, ⟨87, _⟩ => ⟨S16x2x128x4096, .bf16⟩
  | .hbm, ⟨88, _⟩ => ⟨S16x2x128x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S5x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S128x128, .bf16⟩
  | .local _ .vmem, ⟨10, _⟩ => ⟨S512x2560, .f32⟩
  | .local _ .vmem, ⟨11, _⟩ => ⟨S512x2560, .f32⟩
  | .local _ .vmem, ⟨12, _⟩ => ⟨S1x8x512x128, .bf16⟩
  | .local _ .vmem, ⟨13, _⟩ => ⟨S1x8x512x128, .bf16⟩
  | .local _ .vmem, ⟨14, _⟩ => ⟨S1x2x512x128, .bf16⟩
  | .local _ .vmem, ⟨15, _⟩ => ⟨S1x2x512x128, .bf16⟩
  | .local _ .vmem, ⟨16, _⟩ => ⟨S1x2x512x128, .bf16⟩
  | .local _ .vmem, ⟨17, _⟩ => ⟨S1x2x512x128, .bf16⟩
  | .local _ .vmem, ⟨18, _⟩ => ⟨S1x2x128x512, .bf16⟩
  | .local _ .vmem, ⟨19, _⟩ => ⟨S1x2x128x512, .bf16⟩
  | .local _ .vmem, ⟨20, _⟩ => ⟨S1x2x128x512, .bf16⟩
  | .local _ .vmem, ⟨21, _⟩ => ⟨S1x2x128x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_7 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69_0 : Ref sig .tc := ⟨.hbm, 83, rfl⟩
abbrev main_v69_1 : Ref sig .tc := ⟨.hbm, 84, rfl⟩
abbrev main_v69_2 : Ref sig .tc := ⟨.hbm, 85, rfl⟩
abbrev main_v69_3 : Ref sig .tc := ⟨.hbm, 86, rfl⟩
abbrev main_v69_4 : Ref sig .tc := ⟨.hbm, 87, rfl⟩
abbrev main_v69_5 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_12 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S65536x1024 : Shape := ⟨2, ![65536, 1024]⟩
abbrev S1024 : Shape := ⟨1, ![1024]⟩
abbrev S1024x3352 : Shape := ⟨2, ![1024, 3352]⟩
abbrev S64 : Shape := ⟨1, ![64]⟩
abbrev S3x64 : Shape := ⟨2, ![3, 64]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3352 : Shape := ⟨2, ![65536, 3352]⟩
abbrev S65536x2048 : Shape := ⟨2, ![65536, 2048]⟩
abbrev S65536x512 : Shape := ⟨2, ![65536, 512]⟩
abbrev S65536x128 : Shape := ⟨2, ![65536, 128]⟩
abbrev S65536x24 : Shape := ⟨2, ![65536, 24]⟩
abbrev S65536x116 : Shape := ⟨2, ![65536, 116]⟩
abbrev S65536x12 : Shape := ⟨2, ![65536, 12]⟩
abbrev S65536x2560 : Shape := ⟨2, ![65536, 2560]⟩

abbrev nBuf : Space → Nat
  | .hbm => 33
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3352, .f32⟩
  | .hbm, ⟨3, _⟩ => ⟨S64, .f32⟩
  | .hbm, ⟨4, _⟩ => ⟨S3x64, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x3352, .f32⟩
  | .hbm, ⟨22, _⟩ => ⟨S65536x2048, .f32⟩
  | .hbm, ⟨23, _⟩ => ⟨S65536x512, .f32⟩
  | .hbm, ⟨24, _⟩ => ⟨S65536x128, .f32⟩
  | .hbm, ⟨25, _⟩ => ⟨S65536x128, .f32⟩
  | .hbm, ⟨26, _⟩ => ⟨S65536x512, .f32⟩
  | .hbm, ⟨27, _⟩ => ⟨S65536x24, .f32⟩
  | .hbm, ⟨28, _⟩ => ⟨S_, .f32⟩
  | .hbm, ⟨29, _⟩ => ⟨S65536x116, .f32⟩
  | .hbm, ⟨30, _⟩ => ⟨S65536x12, .f32⟩
  | .hbm, ⟨31, _⟩ => ⟨S65536x12, .f32⟩
  | .hbm, ⟨32, _⟩ => ⟨S65536x2560, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.MoeRuns.lean ====
/- The launch of the expert call: @main up to the call, the table it prefetches, the blocks, the buffers.
   The set-up follows the form the generated launches of the other calls have. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S288 .i32 := Memref.whole main_v11
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c)))⟩) h

/-! ## The body's branch condition -/

/-- The body converts the weights to the scratch buffers at the first point and where the table's word moves. -/
abbrev cond0_0 (i : grid0.Coords) (v2 : BitVec 32) (v6 : BitVec 32) : Prop := (Scalar.cmpi .ne (Scalar.extui (Scalar.ori (Scalar.cmpi .eq (BitVec.ofNat 32 (i 0).val) 0#32) (Scalar.cmpi .ne v2 v6))) 0#32) = 1#1

/-- The two words of the table the condition reads. -/
abbrev w0 (c : Dev nD) (i : grid0.Coords) (xt0 : TbBuf0 (F := F) c tbM0_0) : BitVec 32 := tbM0_0.view.readAt (Elt F) (Rect.unit (s := S288) (k0_off1 i) S1.size (k0_off1_inb i)).toLoadRect xt0 (Shape.Idx.first (numel1_S1.symm ▸ Nat.one_pos))
abbrev w1 (c : Dev nD) (i : grid0.Coords) (xt0 : TbBuf0 (F := F) c tbM0_0) : BitVec 32 := tbM0_0.view.readAt (Elt F) (Rect.unit (s := S288) (k0_off2 i) S1.size (k0_off2_inb i)).toLoadRect xt0 (Shape.Idx.first (numel1_S1.symm ▸ Nat.one_pos))

/-- Each window's current staging memref at point `t`, spelled as the pipeline passes it (`bodyAt0`), and its wholeness. -/
abbrev ms0_0 (hO : Ok m) (t : Fin (cfgM m hO).N) : Memref sig .tc .vmem S4096x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x512x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S4096x128 .f32 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S1024x512 .bf16 := Memref.whole cc0_scratch0
abbrev scM0_1 : Memref sig .tc .vmem S1024x512 .bf16 := Memref.whole cc0_scratch1
abbrev scM0_2 : Memref sig .tc .vmem S512x1024 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_v11) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _)

end Cert.Kernel2Ideal.Moe

end
-- ==== Proof.MoeRunA.lean ====
/- The body of the expert call run on whole buffers, where the weights are converted. -/
module

public import proofs.«01_k».proof.Proof.MoeRuns

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_A (c : Dev nD) (i : grid0.Coords) (arg2 : Memref sig .tc .vmem S4096x128 .f32) (harg2 : arg2.IsWhole) (arg3 : Memref sig .tc .vmem S1x1x1024x512 .f32) (harg3 : arg3.IsWhole) (arg4 : Memref sig .tc .vmem S1x1x1024x512 .f32) (harg4 : arg4.IsWhole) (arg5 : Memref sig .tc .vmem S1x1x512x1024 .f32) (harg5 : arg5.IsWhole) (arg6 : Memref sig .tc .vmem S4096x128 .f32) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S512x1024 .bf16) (harg9 : arg9.IsWhole)
    (x0 : Vec F S4096x128 .f32) (x1 : Vec F S1x1x1024x512 .f32) (x2 : Vec F S1x1x1024x512 .f32) (x3 : Vec F S1x1x512x1024 .f32) (xt0 : TbBuf0 (F := F) c tbM0_0) (hc0 : cond0_0 i (w0 c i xt0) (w1 c i xt0)) :
    Σ' (L4 : List (View.Piece (Elt F) S4096x128 .f32)), Σ' (LS0 : List (View.Piece (Elt F) S1024x512 .bf16)), Σ' (LS1 : List (View.Piece (Elt F) S1024x512 .bf16)), { LS2 : List (View.Piece (Elt F) S512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ tbPt0 c tbM0_0 xt0) -∗ K ⟨⟩))
          ⊢ wp frame (wpE (defs₀ (F := F)) Variants.none c none) E (cc0_moe_experts i tbM0_0 htbM0_0 arg2 harg2 arg3 harg3 arg4 harg4 arg5 harg5 arg6 harg6 arg7 harg7 arg8 harg8 arg9 harg9) K } := by
  refine ⟨?_, ?_, ?_, ?_, fun E K => ?run⟩
  case run =>
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, HT0, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexact HT0

end Cert.Kernel2Ideal.Moe

end
-- ==== Proof.MoeRunB.lean ====
/- The body of the expert call run on whole buffers, where the scratch buffers hold the weights. -/
module

public import proofs.«01_k».proof.Proof.MoeRuns

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in

noncomputable def kernelRun0_B (c : Dev nD) (i : grid0.Coords) (arg2 : Memref sig .tc .vmem S4096x128 .f32) (harg2 : arg2.IsWhole) (arg3 : Memref sig .tc .vmem S1x1x1024x512 .f32) (harg3 : arg3.IsWhole) (arg4 : Memref sig .tc .vmem S1x1x1024x512 .f32) (harg4 : arg4.IsWhole) (arg5 : Memref sig .tc .vmem S1x1x512x1024 .f32) (harg5 : arg5.IsWhole) (arg6 : Memref sig .tc .vmem S4096x128 .f32) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S512x1024 .bf16) (harg9 : arg9.IsWhole)
    (x0 : Vec F S4096x128 .f32) (x1 : Vec F S1x1x1024x512 .f32) (x2 : Vec F S1x1x1024x512 .f32) (x3 : Vec F S1x1x512x1024 .f32) (xt0 : TbBuf0 (F := F) c tbM0_0) (hc0 : ¬cond0_0 i (w0 c i xt0) (w1 c i xt0)) (xs0 : Vec F S1024x512 .bf16) (xs1 : Vec F S1024x512 .bf16) (xs2 : Vec F S512x1024 .bf16) :
    Σ' (L4 : List (View.Piece (Elt F) S4096x128 .f32)), Σ' (LS0 : List (View.Piece (Elt F) S1024x512 .bf16)), Σ' (LS1 : List (View.Piece (Elt F) S1024x512 .bf16)), { LS2 : List (View.Piece (Elt F) S512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0 ∗ owns (c : Thread nD τ) arg8 fullShare xs1 ∗ owns (c : Thread nD τ) arg9 fullShare xs2 ∗ tbPt0 c tbM0_0 xt0) -∗ K ⟨⟩))
          ⊢ wp frame (wpE (defs₀ (F := F)) Variants.none c none) E (cc0_moe_experts i tbM0_0 htbM0_0 arg2 harg2 arg3 harg3 arg4 harg4 arg5 harg5 arg6 harg6 arg7 harg7 arg8 harg8 arg9 harg9) K } := by
  refine ⟨?_, [], [], [], fun E K => ?run⟩
  case run =>
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, HT0, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg7.read_unread _
      iexact HS0
    isplitl [HS1]
    · iexists _; isplitr; · ipureintro; exact harg8.read_unread _
      iexact HS1
    isplitl [HS2]
    · iexists _; isplitr; · ipureintro; exact harg9.read_unread _
      iexact HS2
    iexact HT0

end Cert.Kernel2Ideal.Moe

end
-- ==== Proof.MoeBody.lean ====
/- What the body of the expert call stores. -/
module

public import proofs.«01_k».proof.Proof.MoeRunA
public import proofs.«01_k».proof.Proof.MoeRunB
public import Idealize.ShloMosaic.Lib.Pointwise

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem ex0 {a b : Nat} (y : Shape.Idx ⟨2, ![a, b]⟩) : (y 0).val < a := (y 0).isLt
theorem ex1 {a b : Nat} (y : Shape.Idx ⟨2, ![a, b]⟩) : (y 1).val < b := (y 1).isLt

/-- The token tile the body multiplies: the eight lane rows of each token row beside each other. -/
def xc (x0 : Vec F S4096x128 .f32) : FVec F S512x1024 .bf16 := k0_pay13 (fun y => x0 ((⟨![0, 0], S512x128.size, ![8, 1], inb_S4096x128_S512x128_0_0_s_8_1⟩ : LoadRect S4096x128).idx y)) (fun y => x0 ((⟨![1, 0], S512x128.size, ![8, 1], inb_S4096x128_S512x128_1_0_s_8_1⟩ : LoadRect S4096x128).idx y)) (fun y => x0 ((⟨![2, 0], S512x128.size, ![8, 1], inb_S4096x128_S512x128_2_0_s_8_1⟩ : LoadRect S4096x128).idx y)) (fun y => x0 ((⟨![3, 0], S512x128.size, ![8, 1], inb_S4096x128_S512x128_3_0_s_8_1⟩ : LoadRect S4096x128).idx y)) (fun y => x0 ((⟨![4, 0], S512x128.size, ![8, 1], inb_S4096x128_S512x128_4_0_s_8_1⟩ : LoadRect S4096x128).idx y)) (fun y => x0 ((⟨![5, 0], S512x128.size, ![8, 1], inb_S4096x128_S512x128_5_0_s_8_1⟩ : LoadRect S4096x128).idx y)) (fun y => x0 ((⟨![6, 0], S512x128.size, ![8, 1], inb_S4096x128_S512x128_6_0_s_8_1⟩ : LoadRect S4096x128).idx y)) (fun y => x0 ((⟨![7, 0], S512x128.size, ![8, 1], inb_S4096x128_S512x128_7_0_s_8_1⟩ : LoadRect S4096x128).idx y))

/-- The gated activations of the tile. -/
def xg (x0 : Vec F S4096x128 .f32) (g0 : Vec F S1024x512 .bf16) : FVec F S512x512 .f32 := k0_pay14 (fun y => x0 ((⟨![0, 0], S512x128.size, ![8, 1], inb_S4096x128_S512x128_0_0_s_8_1⟩ : LoadRect S4096x128).idx y)) (fun y => x0 ((⟨![1, 0], S512x128.size, ![8, 1], inb_S4096x128_S512x128_1_0_s_8_1⟩ : LoadRect S4096x128).idx y)) (fun y => x0 ((⟨![2, 0], S512x128.size, ![8, 1], inb_S4096x128_S512x128_2_0_s_8_1⟩ : LoadRect S4096x128).idx y)) (fun y => x0 ((⟨![3, 0], S512x128.size, ![8, 1], inb_S4096x128_S512x128_3_0_s_8_1⟩ : LoadRect S4096x128).idx y)) (fun y => x0 ((⟨![4, 0], S512x128.size, ![8, 1], inb_S4096x128_S512x128_4_0_s_8_1⟩ : LoadRect S4096x128).idx y)) (fun y => x0 ((⟨![5, 0], S512x128.size, ![8, 1], inb_S4096x128_S512x128_5_0_s_8_1⟩ : LoadRect S4096x128).idx y)) (fun y => x0 ((⟨![6, 0], S512x128.size, ![8, 1], inb_S4096x128_S512x128_6_0_s_8_1⟩ : LoadRect S4096x128).idx y)) (fun y => x0 ((⟨![7, 0], S512x128.size, ![8, 1], inb_S4096x128_S512x128_7_0_s_8_1⟩ : LoadRect S4096x128).idx y)) g0

/-- What the body stores, piece by piece, last first. -/
def pcs (xa : FVec F S512x1024 .bf16) (xh : FVec F S512x512 .f32) (g1 : Vec F S1024x512 .bf16) (g2 : Vec F S512x1024 .bf16) : List (View.Piece (Elt F) S4096x128 .f32) :=
  [⟨⟨(⟨![7, 0], S512x128.size, ![8, 1], inb_S4096x128_S512x128_7_0_s_8_1⟩ : LoadRect S4096x128), spos_8_1⟩, k0_pay9 xa xh g1 g2⟩,
    ⟨⟨(⟨![6, 0], S512x128.size, ![8, 1], inb_S4096x128_S512x128_6_0_s_8_1⟩ : LoadRect S4096x128), spos_8_1⟩, k0_pay8 xa xh g1 g2⟩,
    ⟨⟨(⟨![5, 0], S512x128.size, ![8, 1], inb_S4096x128_S512x128_5_0_s_8_1⟩ : LoadRect S4096x128), spos_8_1⟩, k0_pay7 xa xh g1 g2⟩,
    ⟨⟨(⟨![4, 0], S512x128.size, ![8, 1], inb_S4096x128_S512x128_4_0_s_8_1⟩ : LoadRect S4096x128), spos_8_1⟩, k0_pay6 xa xh g1 g2⟩,
    ⟨⟨(⟨![3, 0], S512x128.size, ![8, 1], inb_S4096x128_S512x128_3_0_s_8_1⟩ : LoadRect S4096x128), spos_8_1⟩, k0_pay5 xa xh g1 g2⟩,
    ⟨⟨(⟨![2, 0], S512x128.size, ![8, 1], inb_S4096x128_S512x128_2_0_s_8_1⟩ : LoadRect S4096x128), spos_8_1⟩, k0_pay4 xa xh g1 g2⟩,
    ⟨⟨(⟨![1, 0], S512x128.size, ![8, 1], inb_S4096x128_S512x128_1_0_s_8_1⟩ : LoadRect S4096x128), spos_8_1⟩, k0_pay3 xa xh g1 g2⟩,
    ⟨⟨(⟨![0, 0], S512x128.size, ![8, 1], inb_S4096x128_S512x128_0_0_s_8_1⟩ : LoadRect S4096x128), spos_8_1⟩, k0_pay2 xa xh g1 g2⟩]

theorem off2 : (![0, 0] : Fin 2 → ℕ) = fun _ => 0 := by decide
theorem off4 : (![0, 0, 0, 0] : Fin 4 → ℕ) = fun _ => 0 := by decide

theorem at_unread {κ : Kind} {sp : Space} {S : Shape} {e : EltTy} {V : Memref sig κ sp S e} (h : V.IsWhole) (r : LoadRect S) (x : S.Idx → Elt F e) :
    V.view.readAt (Elt F) r (h.unread x) = fun y => x (r.idx y) :=
  funext fun y => by rw [View.readAt_apply, h.read_unread]

theorem at_whole {κ : Kind} {sp : Space} {S : Shape} {e : EltTy} {V : Memref sig κ sp S e} (h : V.IsWhole) {off : Fin S.rank → ℕ} (ho : off = fun _ => 0)
    (inb : ∀ a, off a + S.size a ≤ S.size a) (x : S.Idx → Elt F e) :
    V.view.readAt (Elt F) (Rect.unit off S.size inb).toLoadRect (h.unread x) = x :=
  (at_unread h _ x).trans (View.ld_unit_zero ho inb x)

/-- What one store over a whole buffer leaves. -/
theorem read_one {sp : Space} {S : Shape} {e : EltTy} (V : View sig .tc sp S e) {off : Fin S.rank → ℕ} (ho : off = fun _ => 0)
    (inb : ∀ a, off a + S.size a ≤ S.size a) (w : S.Idx → Elt F e) (f : V.ty.Contents (Elt F)) :
    V.read (Elt F) (V.writes (Elt F) f [⟨Rect.unit off S.size inb, w⟩]) = w :=
  (View.read_writes_eq_canon _ _ _ fun y => ⟨_, List.mem_singleton_self _, View.mem_set_unit_zero ho inb y⟩).trans (View.canon_unit_zero ho inb w)

theorem pcsB (c : Dev nD) (i : grid0.Coords) (arg2 : Memref sig .tc .vmem S4096x128 .f32) (harg2 : arg2.IsWhole) (arg3 : Memref sig .tc .vmem S1x1x1024x512 .f32) (harg3 : arg3.IsWhole) (arg4 : Memref sig .tc .vmem S1x1x1024x512 .f32) (harg4 : arg4.IsWhole) (arg5 : Memref sig .tc .vmem S1x1x512x1024 .f32) (harg5 : arg5.IsWhole) (arg6 : Memref sig .tc .vmem S4096x128 .f32) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S512x1024 .bf16) (harg9 : arg9.IsWhole)
    (x0 : Vec F S4096x128 .f32) (x1 : Vec F S1x1x1024x512 .f32) (x2 : Vec F S1x1x1024x512 .f32) (x3 : Vec F S1x1x512x1024 .f32) (xt0 : TbBuf0 (F := F) c tbM0_0) (hc0 : ¬cond0_0 i (w0 c i xt0) (w1 c i xt0)) (xs0 : Vec F S1024x512 .bf16) (xs1 : Vec F S1024x512 .bf16) (xs2 : Vec F S512x1024 .bf16) :
    (kernelRun0_B c i arg2 harg2 arg3 harg3 arg4 harg4 arg5 harg5 arg6 harg6 arg7 harg7 arg8 harg8 arg9 harg9 x0 x1 x2 x3 xt0 hc0 xs0 xs1 xs2).1 = pcs (xc x0) (xg x0 xs0) xs1 xs2 := by
  have e2 : kernelRun0_B.sl.r_2 c arg2 harg2 x0 = xc x0 := by
    unfold kernelRun0_B.sl.r_2 xc
    simp only [at_unread]
  have e3 : kernelRun0_B.sl.r_3 c arg2 harg2 arg7 harg7 x0 xs0 = xg x0 xs0 := by
    unfold kernelRun0_B.sl.r_3 xg
    rw [at_whole harg7 off2]
    simp only [at_unread]
  unfold kernelRun0_B
  dsimp only
  rw [e2, e3, at_whole harg8 off2, at_whole harg9 off2]
  rfl
theorem pcsA (c : Dev nD) (i : grid0.Coords) (arg2 : Memref sig .tc .vmem S4096x128 .f32) (harg2 : arg2.IsWhole) (arg3 : Memref sig .tc .vmem S1x1x1024x512 .f32) (harg3 : arg3.IsWhole) (arg4 : Memref sig .tc .vmem S1x1x1024x512 .f32) (harg4 : arg4.IsWhole) (arg5 : Memref sig .tc .vmem S1x1x512x1024 .f32) (harg5 : arg5.IsWhole) (arg6 : Memref sig .tc .vmem S4096x128 .f32) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S512x1024 .bf16) (harg9 : arg9.IsWhole)
    (x0 : Vec F S4096x128 .f32) (x1 : Vec F S1x1x1024x512 .f32) (x2 : Vec F S1x1x1024x512 .f32) (x3 : Vec F S1x1x512x1024 .f32) (xt0 : TbBuf0 (F := F) c tbM0_0) (hc0 : cond0_0 i (w0 c i xt0) (w1 c i xt0)) :
    (kernelRun0_A c i arg2 harg2 arg3 harg3 arg4 harg4 arg5 harg5 arg6 harg6 arg7 harg7 arg8 harg8 arg9 harg9 x0 x1 x2 x3 xt0 hc0).1 = pcs (xc x0) (xg x0 (k0_pay10 x1)) (k0_pay11 x2) (k0_pay12 x3) := by
  have e2 : kernelRun0_A.sl.r_2 c arg2 harg2 x0 = xc x0 := by
    unfold kernelRun0_A.sl.r_2 xc
    simp only [at_unread]
  have e3 : kernelRun0_A.sl.r_3 c arg2 harg2 arg3 harg3 arg7 x0 x1 = xg x0 (k0_pay10 x1) := by
    have e1 : kernelRun0_A.sl.v29 c arg3 harg3 arg7 x1 = k0_pay10 x1 := by
      unfold kernelRun0_A.sl.v29 kernelRun0_A.sl.HS0_1
      rw [at_whole harg3 off4]
      exact View.readCov_unit_zero arg7.view off2 _ _
    unfold kernelRun0_A.sl.r_3 xg
    rw [e1]
    simp only [at_unread]
  have e4 : kernelRun0_A.sl.v33 c arg4 harg4 arg8 x2 = k0_pay11 x2 := by
    unfold kernelRun0_A.sl.v33 kernelRun0_A.sl.HS1_1
    rw [at_whole harg4 off4]
    exact View.readCov_unit_zero arg8.view off2 _ _
  have e5 : kernelRun0_A.sl.v37 c arg5 harg5 arg9 x3 = k0_pay12 x3 := by
    unfold kernelRun0_A.sl.v37 kernelRun0_A.sl.HS2_1
    rw [at_whole harg5 off4]
    exact View.readCov_unit_zero arg9.view off2 _ _
  unfold kernelRun0_A
  dsimp only
  rw [e2, e3, e4, e5]
  rfl

/-- What the weight buffers hold once the weights are converted. -/
theorem scrA (c : Dev nD) (i : grid0.Coords) (arg2 : Memref sig .tc .vmem S4096x128 .f32) (harg2 : arg2.IsWhole) (arg3 : Memref sig .tc .vmem S1x1x1024x512 .f32) (harg3 : arg3.IsWhole) (arg4 : Memref sig .tc .vmem S1x1x1024x512 .f32) (harg4 : arg4.IsWhole) (arg5 : Memref sig .tc .vmem S1x1x512x1024 .f32) (harg5 : arg5.IsWhole) (arg6 : Memref sig .tc .vmem S4096x128 .f32) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S512x1024 .bf16) (harg9 : arg9.IsWhole)
    (x0 : Vec F S4096x128 .f32) (x1 : Vec F S1x1x1024x512 .f32) (x2 : Vec F S1x1x1024x512 .f32) (x3 : Vec F S1x1x512x1024 .f32) (xt0 : TbBuf0 (F := F) c tbM0_0) (hc0 : cond0_0 i (w0 c i xt0) (w1 c i xt0)) :
    (∀ f, arg7.view.read (Elt F) (arg7.view.writes (Elt F) f (kernelRun0_A c i arg2 harg2 arg3 harg3 arg4 harg4 arg5 harg5 arg6 harg6 arg7 harg7 arg8 harg8 arg9 harg9 x0 x1 x2 x3 xt0 hc0).2.1) = k0_pay10 x1)
    ∧ (∀ f, arg8.view.read (Elt F) (arg8.view.writes (Elt F) f (kernelRun0_A c i arg2 harg2 arg3 harg3 arg4 harg4 arg5 harg5 arg6 harg6 arg7 harg7 arg8 harg8 arg9 harg9 x0 x1 x2 x3 xt0 hc0).2.2.1) = k0_pay11 x2)
    ∧ (∀ f, arg9.view.read (Elt F) (arg9.view.writes (Elt F) f (kernelRun0_A c i arg2 harg2 arg3 harg3 arg4 harg4 arg5 harg5 arg6 harg6 arg7 harg7 arg8 harg8 arg9 harg9 x0 x1 x2 x3 xt0 hc0).2.2.2.1) = k0_pay12 x3) := by
  unfold kernelRun0_A
  dsimp only
  unfold kernelRun0_A.sl.HS0_1 kernelRun0_A.sl.HS1_1 kernelRun0_A.sl.HS2_1
  rw [at_whole harg3 off4, at_whole harg4 off4, at_whole harg5 off4]
  exact ⟨fun f => read_one _ off2 _ _ f, fun f => read_one _ off2 _ _ f, fun f => read_one _ off2 _ _ f⟩

/-- A tile of token rows laid out as eight lane rows a token. -/
def yt (M : FVec F S512x1024 .f32) : Vec F S4096x128 .f32 := fun y =>
  M (ix2 ⟨(y 0).val / 8, by have := ex0 y; omega⟩ ⟨128 * ((y 0).val % 8) + (y 1).val, by have := ex1 y; omega⟩)

theorem pcs_hit (xa : FVec F S512x1024 .bf16) (xh : FVec F S512x512 .f32) (g1 : Vec F S1024x512 .bf16) (g2 : Vec F S512x1024 .bf16) (y : S4096x128.Idx) :
    ∃ p ∈ pcs xa xh g1 g2, y ∈ p.1.set := by
  have h0 := ex0 y
  have h1 := ex1 y
  have key : ∀ (s : Nat) (inb) (p : View.Piece (Elt F) S4096x128 .f32), p.1 = ⟨(⟨![s, 0], S512x128.size, ![8, 1], inb⟩ : LoadRect S4096x128), spos_8_1⟩ → (y 0).val % 8 = s → y ∈ p.1.set := by
    intro s inb p hp hs
    rw [hp]
    refine (LoadRect.mem_set _).mpr fun a => ?_
    match a with
    | ⟨0, _⟩ => exact ⟨(y 0).val / 8, by show (y 0).val / 8 < 512; omega, by show (y 0).val = s + 8 * ((y 0).val / 8); omega⟩
    | ⟨1, _⟩ => exact ⟨(y 1).val, h1, by show (y 1).val = 0 + 1 * (y 1).val; omega⟩
  have h8 : (y 0).val % 8 < 8 := by omega
  unfold pcs
  generalize hs : (y 0).val % 8 = s at h8
  interval_cases s
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), key 0 _ _ rfl hs⟩
  · exact ⟨_, List.mem_cons_of_mem _ (List.mem_cons_of_mem _ (List.mem_cons_of_mem _ (List.mem_cons_of_mem _ (List.mem_cons_of_mem _ (List.mem_cons_of_mem _ (List.mem_cons_self)))))), key 1 _ _ rfl hs⟩
  · exact ⟨_, List.mem_cons_of_mem _ (List.mem_cons_of_mem _ (List.mem_cons_of_mem _ (List.mem_cons_of_mem _ (List.mem_cons_of_mem _ (List.mem_cons_self))))), key 2 _ _ rfl hs⟩
  · exact ⟨_, List.mem_cons_of_mem _ (List.mem_cons_of_mem _ (List.mem_cons_of_mem _ (List.mem_cons_of_mem _ (List.mem_cons_self)))), key 3 _ _ rfl hs⟩
  · exact ⟨_, List.mem_cons_of_mem _ (List.mem_cons_of_mem _ (List.mem_cons_of_mem _ (List.mem_cons_self))), key 4 _ _ rfl hs⟩
  · exact ⟨_, List.mem_cons_of_mem _ (List.mem_cons_of_mem _ (List.mem_cons_self)), key 5 _ _ rfl hs⟩
  · exact ⟨_, List.mem_cons_of_mem _ (List.mem_cons_self), key 6 _ _ rfl hs⟩
  · exact ⟨_, List.mem_cons_self, key 7 _ _ rfl hs⟩

/-- One store of lane row `s` agrees with the tile laid out. -/
theorem piece_eq (M : FVec F S512x1024 .f32) (s : Nat) (hs : s < 8) (inb) (hsl : S512x1024.Slices ![0, 128 * s] S512x128) (x : S512x128.Idx) :
    extractStridedSlice S512x128 ![0, 128 * s] M hsl x
      = yt M ((⟨(⟨![s, 0], S512x128.size, ![8, 1], inb⟩ : LoadRect S4096x128), spos_8_1⟩ : Rect S4096x128).emb x) := by
  have h0 := ex0 x
  have h1 := ex1 x
  refine congrArg M (funext fun a => Fin.ext ?_)
  match a with
  | ⟨0, _⟩ => show 0 + (x 0).val = (s + 8 * (x 0).val) / 8; omega
  | ⟨1, _⟩ => show 128 * s + (x 1).val = 128 * ((s + 8 * (x 0).val) % 8) + (0 + 1 * (x 1).val); omega

/-- The stored pieces together are the tile's product laid out. -/
theorem canon_pcs (xa : FVec F S512x1024 .bf16) (xh : FVec F S512x512 .f32) (g1 : Vec F S1024x512 .bf16) (g2 : Vec F S512x1024 .bf16) :
    View.canon (pcs xa xh g1 g2) = yt (k0_pay1 xa xh g1 g2) := by
  funext y
  refine View.canon_apply_of_pieces _ _ (fun p hp x => ?_) y (pcs_hit xa xh g1 g2 y)
  simp only [pcs, List.mem_cons, List.not_mem_nil, or_false] at hp
  rcases hp with rfl | rfl | rfl | rfl | rfl | rfl | rfl | rfl
  · exact piece_eq _ 7 (by omega) _ slices_S512x1024_o0_896_S512x128 x
  · exact piece_eq _ 6 (by omega) _ slices_S512x1024_o0_768_S512x128 x
  · exact piece_eq _ 5 (by omega) _ slices_S512x1024_o0_640_S512x128 x
  · exact piece_eq _ 4 (by omega) _ slices_S512x1024_o0_512_S512x128 x
  · exact piece_eq _ 3 (by omega) _ slices_S512x1024_o0_384_S512x128 x
  · exact piece_eq _ 2 (by omega) _ slices_S512x1024_o0_256_S512x128 x
  · exact piece_eq _ 1 (by omega) _ slices_S512x1024_o0_128_S512x128 x
  · exact piece_eq _ 0 (by omega) _ slices_S512x1024_o0_0_S512x128 x

/-- The output buffer where the pieces are written. -/
theorem read_pcs {sp : Space} (V : View sig .tc sp S4096x128 .f32) (f : V.ty.Contents (Elt F)) (xa : FVec F S512x1024 .bf16) (xh : FVec F S512x512 .f32) (g1 : Vec F S1024x512 .bf16) (g2 : Vec F S512x1024 .bf16) :
    V.read (Elt F) (V.writes (Elt F) f (pcs xa xh g1 g2)) = yt (k0_pay1 xa xh g1 g2) :=
  (View.read_writes_eq_canon _ _ _ (pcs_hit xa xh g1 g2)).trans (canon_pcs xa xh g1 g2)

theorem readB {sp : Space} (V : View sig .tc sp S4096x128 .f32) (f : V.ty.Contents (Elt F)) (c : Dev nD) (i : grid0.Coords) (arg2 : Memref sig .tc .vmem S4096x128 .f32) (harg2 : arg2.IsWhole) (arg3 : Memref sig .tc .vmem S1x1x1024x512 .f32) (harg3 : arg3.IsWhole) (arg4 : Memref sig .tc .vmem S1x1x1024x512 .f32) (harg4 : arg4.IsWhole) (arg5 : Memref sig .tc .vmem S1x1x512x1024 .f32) (harg5 : arg5.IsWhole) (arg6 : Memref sig .tc .vmem S4096x128 .f32) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S512x1024 .bf16) (harg9 : arg9.IsWhole)
    (x0 : Vec F S4096x128 .f32) (x1 : Vec F S1x1x1024x512 .f32) (x2 : Vec F S1x1x1024x512 .f32) (x3 : Vec F S1x1x512x1024 .f32) (xt0 : TbBuf0 (F := F) c tbM0_0) (hc0 : ¬cond0_0 i (w0 c i xt0) (w1 c i xt0)) (xs0 : Vec F S1024x512 .bf16) (xs1 : Vec F S1024x512 .bf16) (xs2 : Vec F S512x1024 .bf16) :
    V.read (Elt F) (V.writes (Elt F) f (kernelRun0_B c i arg2 harg2 arg3 harg3 arg4 harg4 arg5 harg5 arg6 harg6 arg7 harg7 arg8 harg8 arg9 harg9 x0 x1 x2 x3 xt0 hc0 xs0 xs1 xs2).1) = yt (k0_pay1 (xc x0) (xg x0 xs0) xs1 xs2) := by
  rw [pcsB]
  exact read_pcs V f _ _ _ _

theorem readA {sp : Space} (V : View sig .tc sp S4096x128 .f32) (f : V.ty.Contents (Elt F)) (c : Dev nD) (i : grid0.Coords) (arg2 : Memref sig .tc .vmem S4096x128 .f32) (harg2 : arg2.IsWhole) (arg3 : Memref sig .tc .vmem S1x1x1024x512 .f32) (harg3 : arg3.IsWhole) (arg4 : Memref sig .tc .vmem S1x1x1024x512 .f32) (harg4 : arg4.IsWhole) (arg5 : Memref sig .tc .vmem S1x1x512x1024 .f32) (harg5 : arg5.IsWhole) (arg6 : Memref sig .tc .vmem S4096x128 .f32) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S512x1024 .bf16) (harg9 : arg9.IsWhole)
    (x0 : Vec F S4096x128 .f32) (x1 : Vec F S1x1x1024x512 .f32) (x2 : Vec F S1x1x1024x512 .f32) (x3 : Vec F S1x1x512x1024 .f32) (xt0 : TbBuf0 (F := F) c tbM0_0) (hc0 : cond0_0 i (w0 c i xt0) (w1 c i xt0)) :
    V.read (Elt F) (V.writes (Elt F) f (kernelRun0_A c i arg2 harg2 arg3 harg3 arg4 harg4 arg5 harg5 arg6 harg6 arg7 harg7 arg8 harg8 arg9 harg9 x0 x1 x2 x3 xt0 hc0).1) = yt (k0_pay1 (xc x0) (xg x0 (k0_pay10 x1)) (k0_pay11 x2) (k0_pay12 x3)) := by
  rw [pcsA]
  exact read_pcs V f _ _ _ _

end Cert.Kernel2Ideal.Moe

end
-- ==== Proof.MoeKeep.lean ====
/- Where the expert call does not convert the weights they are those of the point before. -/
module

public import proofs.«01_k».proof.Proof.MoeBody

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the weights are not converted, they are the point before's -/

/-- The table's word at point `t`. -/
def wd (t : Fin grid0.N) : BitVec 32 := (V m (0 : Dev nD) main_v11 : IVec S288 32) (ix1 ⟨t.val, lt_of_lt_of_eq t.isLt N_0⟩)

theorem off1_at : ∀ t : Fin grid0.N, k0_off1 (grid0.coords t) 0 = t.val := by decide +kernel
theorem off2_at : ∀ t : Fin grid0.N, k0_off2 (grid0.coords t) 0 = t.val - 1 := by decide +kernel

theorem w0_eq (c : Dev nD) (t : Fin grid0.N) : w0 c (grid0.coords t) (tbl m 0) = wd m t := by
  refine congrArg (V m (0 : Dev nD) main_v11 : IVec S288 32) (funext fun a => Fin.ext ?_)
  match a with
  | ⟨0, _⟩ => exact (show k0_off1 (grid0.coords t) 0 + 1 * 0 = t.val by rw [off1_at]; rfl)

theorem w1_eq (c : Dev nD) (t : Fin grid0.N) : w1 c (grid0.coords t) (tbl m 0) = wd m ⟨t.val - 1, by omega⟩ := by
  refine congrArg (V m (0 : Dev nD) main_v11 : IVec S288 32) (funext fun a => Fin.ext ?_)
  match a with
  | ⟨0, _⟩ => exact (show k0_off2 (grid0.coords t) 0 + 1 * 0 = t.val - 1 by rw [off2_at]; rfl)

theorem at_eq (t : Fin grid0.N) : (tbl m).at 0 (Rect.unit (s := S288) (k0_off1 (grid0.coords t)) S1.size (k0_off1_inb (grid0.coords t))) numel1_S1 = wd m t := by
  refine congrArg (V m (0 : Dev nD) main_v11 : IVec S288 32) (funext fun a => Fin.ext ?_)
  match a with
  | ⟨0, _⟩ => exact (show k0_off1 (grid0.coords t) 0 + 1 * 0 = t.val by rw [off1_at]; rfl)

theorem ix_1 (pf : pre0.Contents (Elt F)) (i : grid0.Coords) (w : BitVec 32)
    (h : pf.at 0 (Rect.unit (s := S288) (k0_off1 i) S1.size (k0_off1_inb i)) numel1_S1 = w) :
    cc0_transform_1 k0_off1_inb numel1_S1 pf i = ![0, w.toNat, 0, 0] := by
  subst h; rfl
theorem ix_2 (pf : pre0.Contents (Elt F)) (i : grid0.Coords) (w : BitVec 32)
    (h : pf.at 0 (Rect.unit (s := S288) (k0_off1 i) S1.size (k0_off1_inb i)) numel1_S1 = w) :
    cc0_transform_2 k0_off1_inb numel1_S1 pf i = ![0, w.toNat, 0, 0] := by
  subst h; rfl
theorem ix_3 (pf : pre0.Contents (Elt F)) (i : grid0.Coords) (w : BitVec 32)
    (h : pf.at 0 (Rect.unit (s := S288) (k0_off1 i) S1.size (k0_off1_inb i)) numel1_S1 = w) :
    cc0_transform_3 k0_off1_inb numel1_S1 pf i = ![0, w.toNat, 0, 0] := by
  subst h; rfl

theorem index_ix_1 (a : (pcfg0 (F := F)).Adm) (t : Fin (cfg0 a).N) :
    ((cfg0 a).win 1).index t = cc0_transform_1 k0_off1_inb numel1_S1 a.1 (grid0.coords t) := rfl
theorem index_ix_2 (a : (pcfg0 (F := F)).Adm) (t : Fin (cfg0 a).N) :
    ((cfg0 a).win 2).index t = cc0_transform_2 k0_off1_inb numel1_S1 a.1 (grid0.coords t) := rfl
theorem index_ix_3 (a : (pcfg0 (F := F)).Adm) (t : Fin (cfg0 a).N) :
    ((cfg0 a).win 3).index t = cc0_transform_3 k0_off1_inb numel1_S1 a.1 (grid0.coords t) := rfl

theorem index_1 (hO : Ok m) (t : Fin (cfgM m hO).N) : ((cfgM m hO).win 1).index t = ![0, (wd m t).toNat, 0, 0] := by
  exact (index_ix_1 (adm m hO) t).trans (ix_1 (tbl m) (grid0.coords t) _ (at_eq m t))
theorem index_2 (hO : Ok m) (t : Fin (cfgM m hO).N) : ((cfgM m hO).win 2).index t = ![0, (wd m t).toNat, 0, 0] := by
  exact (index_ix_2 (adm m hO) t).trans (ix_2 (tbl m) (grid0.coords t) _ (at_eq m t))
theorem index_3 (hO : Ok m) (t : Fin (cfgM m hO).N) : ((cfgM m hO).win 3).index t = ![0, (wd m t).toNat, 0, 0] := by
  exact (index_ix_3 (adm m hO) t).trans (ix_3 (tbl m) (grid0.coords t) _ (at_eq m t))

theorem ori_zero (p q : Bool) : (Scalar.cmpi .ne (Scalar.extui (Scalar.ori (BitVec.ofBool p) (BitVec.ofBool q)) : BitVec 32) 0#32 = 1#1) ↔ (p = true ∨ q = true) := by
  cases p <;> cases q <;> decide

theorem cmp_eq (a b : BitVec 32) : Scalar.cmpi .eq a b = BitVec.ofBool (decide (a = b)) := by
  show BitVec.ofBool (a == b) = _; rw [beq_eq_decide]
theorem cmp_ne (a b : BitVec 32) : Scalar.cmpi .ne a b = BitVec.ofBool (decide (a ≠ b)) := by
  show BitVec.ofBool (!(a == b)) = _; rw [beq_eq_decide, ← decide_not]

theorem ofNat_zero_iff {a : ℕ} (h : a < 2 ^ 32) : BitVec.ofNat 32 a = 0#32 ↔ a = 0 := by
  refine ⟨fun e => ?_, fun e => e ▸ rfl⟩
  have := congrArg BitVec.toNat e
  rwa [BitVec.toNat_ofNat, Nat.mod_eq_of_lt h] at this

theorem cond_iff (i : grid0.Coords) (v2 v6 : BitVec 32) : cond0_0 i v2 v6 ↔ ((i 0).val = 0 ∨ v2 ≠ v6) := by
  have hi : (i 0).val < 2 ^ 32 := lt_of_lt_of_le (i 0).isLt (show 288 ≤ 2 ^ 32 by omega)
  unfold cond0_0
  rw [cmp_eq (BitVec.ofNat 32 (i 0).val) 0#32, cmp_ne v2 v6, ori_zero]
  rw [decide_eq_true_iff, decide_eq_true_iff, ofNat_zero_iff hi]

theorem coords_at (t : Fin grid0.N) : (grid0.coords t 0).val = t.val := by
  have ht : t.val < 288 := Nat.lt_of_lt_of_eq t.isLt N_0
  have e0 : (grid0.coords t 0).val = t.val / 1 % 288 := Pipeline.Grid.coords_val t 0 (by decide) rfl
  omega

/-- Proof data that says nothing but the arrays. -/
def d0 (hO : Ok m) (c : Dev nD) : Dat τ (Elt F) Unit ℕ (UR sig nD τ) ℕ (cfgM m hO) c where
  A w := V m c (Pipeline.arrRef spec0 w)
  after _ _ _ := Classical.arbitrary _
  Φ _ := iprop(emp)
  q _ := fullShare
  owed _ := 0

theorem iblk1_congr (hO : Ok m) (c : Dev nD) (t t' : Fin (cfgM m hO).N) (h : wd m t = wd m t') : iblk m hO c 1 t = iblk m hO c 1 t' :=
  (d0 m hO c).fetched_congr 1 ((index_1 m hO t).trans ((congrArg (fun w : BitVec 32 => (![0, w.toNat, 0, 0] : Fin 4 → ℕ)) h).trans (index_1 m hO t').symm)) rfl (fun _ => Classical.arbitrary _)
theorem iblk2_congr (hO : Ok m) (c : Dev nD) (t t' : Fin (cfgM m hO).N) (h : wd m t = wd m t') : iblk m hO c 2 t = iblk m hO c 2 t' :=
  (d0 m hO c).fetched_congr 2 ((index_2 m hO t).trans ((congrArg (fun w : BitVec 32 => (![0, w.toNat, 0, 0] : Fin 4 → ℕ)) h).trans (index_2 m hO t').symm)) rfl (fun _ => Classical.arbitrary _)
theorem iblk3_congr (hO : Ok m) (c : Dev nD) (t t' : Fin (cfgM m hO).N) (h : wd m t = wd m t') : iblk m hO c 3 t = iblk m hO c 3 t' :=
  (d0 m hO c).fetched_congr 3 ((index_3 m hO t).trans ((congrArg (fun w : BitVec 32 => (![0, w.toNat, 0, 0] : Fin 4 → ℕ)) h).trans (index_3 m hO t').symm)) rfl (fun _ => Classical.arbitrary _)

/-- The gate, up and down weights of point `t`, as the body converts them. -/
def bw0 (hO : Ok m) (c : Dev nD) (t : Fin (cfgM m hO).N) : Vec F S1024x512 .bf16 := k0_pay10 (iblk m hO c 1 t)
def bw1 (hO : Ok m) (c : Dev nD) (t : Fin (cfgM m hO).N) : Vec F S1024x512 .bf16 := k0_pay11 (iblk m hO c 2 t)
def bw2 (hO : Ok m) (c : Dev nD) (t : Fin (cfgM m hO).N) : Vec F S512x1024 .bf16 := k0_pay12 (iblk m hO c 3 t)

theorem bws_congr (hO : Ok m) (c : Dev nD) (t t' : Fin (cfgM m hO).N) (h : wd m t = wd m t') :
    bw0 m hO c t = bw0 m hO c t' ∧ bw1 m hO c t = bw1 m hO c t' ∧ bw2 m hO c t = bw2 m hO c t' :=
  ⟨congrArg k0_pay10 (iblk1_congr m hO c t t' h), congrArg k0_pay11 (iblk2_congr m hO c t t' h), congrArg k0_pay12 (iblk3_congr m hO c t t' h)⟩

theorem keep {hO : Ok m} {c : Dev nD} {t : Fin (cfgM m hO).N} (h : ¬cond0_0 (grid0.coords t) (w0 c (grid0.coords t) (tbl m 0)) (w1 c (grid0.coords t) (tbl m 0))) :
    t.val ≠ 0 ∧ bw0 m hO c ⟨t.val - 1, by omega⟩ = bw0 m hO c t ∧ bw1 m hO c ⟨t.val - 1, by omega⟩ = bw1 m hO c t ∧ bw2 m hO c ⟨t.val - 1, by omega⟩ = bw2 m hO c t := by
  rw [cond_iff, w0_eq m c t, w1_eq m c t, coords_at t, not_or, not_not] at h
  exact ⟨h.1, bws_congr m hO c _ _ h.2.symm⟩

end Cert.Kernel2Ideal.Moe

end
-- ==== Proof.MoeFrame.lean ====
/- The run of the expert call: its invariant, the body at every point, the launch. -/
module

public import proofs.«01_k».proof.Proof.MoeKeep
public import Idealize.ShloMosaic.Lib.Claim

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold point by point -/

/-- What point `t` leaves in the output's buffer. -/
def oy (hO : Ok m) (c : Dev nD) (t : Fin (cfgM m hO).N) : Vec F S4096x128 .f32 :=
  yt (k0_pay1 (xc (iblk m hO c 0 t)) (xg (iblk m hO c 0 t) (bw0 m hO c t)) (bw1 m hO c t) (bw2 m hO c t))

/-- The invariant before point `n`: after a point the weight buffers hold that point's weights. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (bw0 m hO c ⟨n, hn⟩) ∗ owns (c : Thread nD τ) scM0_1 fullShare (bw1 m hO c ⟨n, hn⟩) ∗ owns (c : Thread nD τ) scM0_2 fullShare (bw2 m hO c ⟨n, hn⟩)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(owns (c : Thread nD τ) scM0_0 fullShare (bw0 m hO c ⟨n, hn⟩) ∗ owns (c : Thread nD τ) scM0_1 fullShare (bw1 m hO c ⟨n, hn⟩) ∗ owns (c : Thread nD τ) scM0_2 fullShare (bw2 m hO c ⟨n, hn⟩)) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop(owns (c : Thread nD τ) scM0_0 fullShare (bw0 m hO c ⟨n - 1, by omega⟩) ∗ owns (c : Thread nD τ) scM0_1 fullShare (bw1 m hO c ⟨n - 1, by omega⟩) ∗ owns (c : Thread nD τ) scM0_2 fullShare (bw2 m hO c ⟨n - 1, by omega⟩)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block, the output's at `oy`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => oy m hO c t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = oy m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

set_option maxHeartbeats 6400000 in
/-- The body at any point, in either case. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl,
    after0_0, after0_1, after0_2, after0_3, after0_4]
  rw [show (dats m hO 0 c).Φ t.succ = PhiS m hO c (t.val + 1) t.isLt from rfl, PhiS_succ, PhiT0_eq]
  by_cases h0 : cond0_0 (grid0.coords t) (w0 c (grid0.coords t) (tbl m 0)) (w1 c (grid0.coords t) (tbl m 0))
  · by_cases hz : t.val = 0
    · rw [PhiS_castSucc m hO c t, PhiS_zero m hO c _ _ hz, PhiT0_eq, PhiA0_eq]
      iintro ⟨⟨⟨⟨HS0, HS1, HS2⟩, Hg⟩, HT0⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ (iblk m hO c 0 t) (iblk m hO c 1 t) (iblk m hO c 2 t) (iblk m hO c 3 t) (tbl m 0) h0).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HT0]; · iexact HT0
      iintro ⟨H0, H1, H2, H3, ⟨%e4, H4⟩, ⟨%es0, HS0⟩, ⟨%es1, HS1⟩, ⟨%es2, HS2⟩, HT0⟩
      isplitl [HS0 HS1 HS2 Hg HT0]
      · isplitl [HS0 HS1 HS2 Hg]
        · isplitl [HS0 HS1 HS2]
          · isplitl [HS0]
            · unfold owns; iexists _; isplitr
              swap; · iexact HS0
              ipureintro; exact (scrA c _ _ _ _ _ _ _ _ _ _ _ _ _ _ _ _ _ _ _ _ _ _ h0).1 _
            isplitl [HS1]
            · unfold owns; iexists _; isplitr
              swap; · iexact HS1
              ipureintro; exact (scrA c _ _ _ _ _ _ _ _ _ _ _ _ _ _ _ _ _ _ _ _ _ _ h0).2.1 _
            unfold owns; iexists _; isplitr
            swap; · iexact HS2
            ipureintro; exact (scrA c _ _ _ _ _ _ _ _ _ _ _ _ _ _ _ _ _ _ _ _ _ _ h0).2.2 _
          iexact Hg
        iexact HT0
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact readA _ _ c _ _ _ _ _ _ _ _ _ _ _ _ _ _ _ _ _ _ _ _ _ _ h0
    · rw [PhiS_castSucc m hO c t, PhiS_pos m hO c _ _ hz, PhiT0_eq]
      iintro ⟨⟨⟨⟨HS0, HS1, HS2⟩, Hg⟩, HT0⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ (iblk m hO c 0 t) (iblk m hO c 1 t) (iblk m hO c 2 t) (iblk m hO c 3 t) (tbl m 0) h0).2.2.2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexists _; iexact HS1
      isplitl [HS2]; · iexists _; iexact HS2
      isplitl [HT0]; · iexact HT0
      iintro ⟨H0, H1, H2, H3, ⟨%e4, H4⟩, ⟨%es0, HS0⟩, ⟨%es1, HS1⟩, ⟨%es2, HS2⟩, HT0⟩
      isplitl [HS0 HS1 HS2 Hg HT0]
      · isplitl [HS0 HS1 HS2 Hg]
        · isplitl [HS0 HS1 HS2]
          · isplitl [HS0]
            · unfold owns; iexists _; isplitr
              swap; · iexact HS0
              ipureintro; exact (scrA c _ _ _ _ _ _ _ _ _ _ _ _ _ _ _ _ _ _ _ _ _ _ h0).1 _
            isplitl [HS1]
            · unfold owns; iexists _; isplitr
              swap; · iexact HS1
              ipureintro; exact (scrA c _ _ _ _ _ _ _ _ _ _ _ _ _ _ _ _ _ _ _ _ _ _ h0).2.1 _
            unfold owns; iexists _; isplitr
            swap; · iexact HS2
            ipureintro; exact (scrA c _ _ _ _ _ _ _ _ _ _ _ _ _ _ _ _ _ _ _ _ _ _ h0).2.2 _
          iexact Hg
        iexact HT0
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact readA _ _ c _ _ _ _ _ _ _ _ _ _ _ _ _ _ _ _ _ _ _ _ _ _ h0
  · obtain ⟨hz, k0, k1, k2⟩ := keep m h0
    rw [PhiS_castSucc m hO c t, PhiS_pos m hO c _ _ hz, PhiT0_eq, k0, k1, k2]
    iintro ⟨⟨⟨⟨HS0, HS1, HS2⟩, Hg⟩, HT0⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ _ _ _ _ (iblk m hO c 0 t) (iblk m hO c 1 t) (iblk m hO c 2 t) (iblk m hO c 3 t) (tbl m 0) h0 (bw0 m hO c t) (bw1 m hO c t) (bw2 m hO c t)).2.2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    iintro ⟨H0, H1, H2, H3, ⟨%e4, H4⟩, HS0, HS1, HS2, HT0⟩
    isplitl [HS0 HS1 HS2 Hg HT0]
    · isplitl [HS0 HS1 HS2 Hg]
      · isplitl [HS0 HS1 HS2]
        · isplitl [HS0]
          · iexact HS0
          isplitl [HS1]
          · iexact HS1
          iexact HS2
        iexact Hg
      iexact HT0
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact readB _ _ c _ _ _ _ _ _ _ _ _ _ _ _ _ _ _ _ _ _ _ _ _ _ h0 _ _ _

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2⟩, Hg⟩, -⟩
  isplitl [HS0 HS1 HS2]
  · isplitl [HS0]
    · iexists _; iexact HS0
    isplitl [HS1]
    · iexists _; iexact HS1
    iexists _; iexact HS2
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 288 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The frame: the call ends, the arguments unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Kernel2Ideal.Moe

end
-- ==== Proof.MoeGeo.lean ====
/- Where the blocks of the expert call lie in their arrays. -/
module

public import proofs.«01_k».proof.Proof.MoeFrame
public import Idealize.ShloMosaic.Lib.Pipeline.ValueKit
public import Idealize.ShloMosaic.Lib.Pointwise

@[expose] public section

set_option maxRecDepth 16384

noncomputable section

namespace Cert.Kernel2Ideal.Moe

open Cert.Kernel2Ideal Cert.Kernel2Ideal.Gen
open Idealize.ShloMosaic Idealize.ShloMosaic.TcCoe

variable {F : FTy → Type} [FloatOps F]

theorem ix0_at : ∀ t : Fin grid0.N, cc0_transform_0 (grid0.coords t) = ![t.val, 0] := by decide +kernel
theorem ix4_at : ∀ t : Fin grid0.N, cc0_transform_4 (grid0.coords t) = ![t.val, 0] := by decide +kernel

theorem index_0 (a : (pcfg0 (F := F)).Adm) (t : Fin (cfg0 a).N) : ((cfg0 a).win 0).index t = ![t.val, 0] := ix0_at t
theorem index_4 (a : (pcfg0 (F := F)).Adm) (t : Fin (cfg0 a).N) : ((cfg0 a).win 4).index t = ![t.val, 0] := ix4_at t

/-- Row `r` of the token block at point `t`. -/
def brow (t : Fin grid0.N) (r : Fin 4096) : Fin 1179648 := ⟨t.val * 4096 + r.val, by
  have : t.val < 288 := Nat.lt_of_lt_of_eq t.isLt N_0
  have := r.isLt; omega⟩

/-- A coordinate of a block's element in its array, from the block's index, its size and the element's coordinate. -/
theorem emb_of (w : Pipeline.Window sig grid0) (t : Fin grid0.N) (y : (w.xblock (grid0.coords t)).Idx) (b : Fin w.shape.rank) (hk : w.kind = .blocked)
    (p s v R : ℕ) (hp : w.index t b = p) (hs : w.size b = s) (hv : (y b : ℕ) = v) (hR : p * s + v = R) : ((w.rect t).emb y b : ℕ) = R := by
  rw [w.rect_emb_val t y b hk, hp, hs, hv, hR]

theorem emb0 (a : (pcfg0 (F := F)).Adm) (t : Fin (cfg0 a).N) (r : Fin 4096) (l : Fin 128) :
    ((((cfg0 a).win 0).blk t).view.emb (ix2 r l) : S1179648x128.Idx) = ix2 (brow t r) l := by
  funext b
  refine Fin.ext ?_
  match b with
  | ⟨0, h0⟩ => exact emb_of ((cfg0 a).win 0) t (ix2 r l) ⟨0, h0⟩ rfl t.val 4096 r.val _ (congrFun (index_0 a t) ⟨0, h0⟩) rfl rfl rfl
  | ⟨1, h1⟩ => exact emb_of ((cfg0 a).win 0) t (ix2 r l) ⟨1, h1⟩ rfl 0 128 l.val _ (congrFun (index_0 a t) ⟨1, h1⟩) rfl rfl (show 0 * 128 + l.val = l.val by omega)

theorem emb4 (a : (pcfg0 (F := F)).Adm) (t : Fin (cfg0 a).N) (r : Fin 4096) (l : Fin 128) :
    ((((cfg0 a).win 4).blk t).view.emb (ix2 r l) : S1179648x128.Idx) = ix2 (brow t r) l := by
  funext b
  refine Fin.ext ?_
  match b with
  | ⟨0, h0⟩ => exact emb_of ((cfg0 a).win 4) t (ix2 r l) ⟨0, h0⟩ rfl t.val 4096 r.val _ (congrFun (index_4 a t) ⟨0, h0⟩) rfl rfl rfl
  | ⟨1, h1⟩ => exact emb_of ((cfg0 a).win 4) t (ix2 r l) ⟨1, h1⟩ rfl 0 128 l.val _ (congrFun (index_4 a t) ⟨1, h1⟩) rfl rfl (show 0 * 128 + l.val = l.val by omega)

theorem emb1 (a : (pcfg0 (F := F)).Adm) (t : Fin (cfg0 a).N) (e : Fin 32) (h : ((cfg0 a).win 1).index t = ![0, e.val, 0, 0]) (k : Fin 1024) (f : Fin 512) :
    ((((cfg0 a).win 1).blk t).view.emb (ix4 0 0 k f) : S2x32x1024x512.Idx) = ix4 0 e k f := by
  funext b
  refine Fin.ext ?_
  match b with
  | ⟨0, hb⟩ => exact emb_of ((cfg0 a).win 1) t (ix4 0 0 k f) ⟨0, hb⟩ rfl 0 1 0 _ (congrFun h ⟨0, hb⟩) rfl rfl rfl
  | ⟨1, hb⟩ => exact emb_of ((cfg0 a).win 1) t (ix4 0 0 k f) ⟨1, hb⟩ rfl e.val 1 0 _ (congrFun h ⟨1, hb⟩) rfl rfl (show e.val * 1 + 0 = e.val by omega)
  | ⟨2, hb⟩ => exact emb_of ((cfg0 a).win 1) t (ix4 0 0 k f) ⟨2, hb⟩ rfl 0 1024 k.val _ (congrFun h ⟨2, hb⟩) rfl rfl (show 0 * 1024 + k.val = k.val by omega)
  | ⟨3, hb⟩ => exact emb_of ((cfg0 a).win 1) t (ix4 0 0 k f) ⟨3, hb⟩ rfl 0 512 f.val _ (congrFun h ⟨3, hb⟩) rfl rfl (show 0 * 512 + f.val = f.val by omega)

theorem emb2 (a : (pcfg0 (F := F)).Adm) (t : Fin (cfg0 a).N) (e : Fin 32) (h : ((cfg0 a).win 2).index t = ![0, e.val, 0, 0]) (k : Fin 1024) (f : Fin 512) :
    ((((cfg0 a).win 2).blk t).view.emb (ix4 0 0 k f) : S2x32x1024x512.Idx) = ix4 0 e k f := by
  funext b
  refine Fin.ext ?_
  match b with
  | ⟨0, hb⟩ => exact emb_of ((cfg0 a).win 2) t (ix4 0 0 k f) ⟨0, hb⟩ rfl 0 1 0 _ (congrFun h ⟨0, hb⟩) rfl rfl rfl
  | ⟨1, hb⟩ => exact emb_of ((cfg0 a).win 2) t (ix4 0 0 k f) ⟨1, hb⟩ rfl e.val 1 0 _ (congrFun h ⟨1, hb⟩) rfl rfl (show e.val * 1 + 0 = e.val by omega)
  | ⟨2, hb⟩ => exact emb_of ((cfg0 a).win 2) t (ix4 0 0 k f) ⟨2, hb⟩ rfl 0 1024 k.val _ (congrFun h ⟨2, hb⟩) rfl rfl (show 0 * 1024 + k.val = k.val by omega)
  | ⟨3, hb⟩ => exact emb_of ((cfg0 a).win 2) t (ix4 0 0 k f) ⟨3, hb⟩ rfl 0 512 f.val _ (congrFun h ⟨3, hb⟩) rfl rfl (show 0 * 512 + f.val = f.val by omega)

theorem emb3 (a : (pcfg0 (F := F)).Adm) (t : Fin (cfg0 a).N) (e : Fin 32) (h : ((cfg0 a).win 3).index t = ![0, e.val, 0, 0]) (k : Fin 512) (f : Fin 1024) :
    ((((cfg0 a).win 3).blk t).view.emb (ix4 0 0 k f) : S2x32x512x1024.Idx) = ix4 0 e k f := by
  funext b
  refine Fin.ext ?_
  match b with
  | ⟨0, hb⟩ => exact emb_of ((cfg0 a).win 3) t (ix4 0 0 k f) ⟨0, hb⟩ rfl 0 1 0 _ (congrFun h ⟨0, hb⟩) rfl rfl rfl
  | ⟨1, hb⟩ => exact emb_of ((cfg0 a).win 3) t (ix4 0 0 k f) ⟨1, hb⟩ rfl e.val 1 0 _ (congrFun h ⟨1, hb⟩) rfl rfl (show e.val * 1 + 0 = e.val by omega)
  | ⟨2, hb⟩ => exact emb_of ((cfg0 a).win 3) t (ix4 0 0 k f) ⟨2, hb⟩ rfl 0 512 k.val _ (congrFun h ⟨2, hb⟩) rfl rfl (show 0 * 512 + k.val = k.val by omega)
  | ⟨3, hb⟩ => exact emb_of ((cfg0 a).win 3) t (ix4 0 0 k f) ⟨3, hb⟩ rfl 0 1024 f.val _ (congrFun h ⟨3, hb⟩) rfl rfl (show 0 * 1024 + f.val = f.val by omega)

/-- The output is written back at every point. -/
theorem flush_4 (a : (pcfg0 (F := F)).Adm) (t : Fin (cfg0 a).N) : ((cfg0 a).win 4).flush t = true := by
  refine (Pipeline.Window.flush_out ((cfg0 a).win 4) rfl t).mpr ?_
  by_cases h : t.val + 1 = grid0.N
  · exact .inl h
  · have ht : t.val < grid0.N := t.isLt
    refine .inr ⟨show t.val + 1 < grid0.N by omega, fun e => ?_⟩
    have e' : (![t.val + 1, 0] : Fin 2 → ℕ) = ![t.val, 0] := (index_4 a ⟨t.val + 1, by show t.val + 1 < grid0.N; omega⟩).symm.trans (e.trans (index_4 a t))
    have := congrFun e' 0
    exact absurd (show t.val + 1 = t.val from this) (by omega)

/-- The blocks written back cover the result. -/
theorem cover_4 (a : (pcfg0 (F := F)).Adm) (i : S1179648x128.Idx) :
    ∃ t : Fin (cfg0 a).N, ((cfg0 a).win 4).flush t = true ∧ i ∈ (((cfg0 a).win 4).blk t).view.set := by
  obtain ⟨R, l, rfl⟩ : ∃ (R : Fin 1179648) (l : Fin 128), i = ix2 R l := ⟨i 0, i 1, by funext a; fin_cases a <;> rfl⟩
  have hR := R.isLt
  have hN : R.val / 4096 < grid0.N := by rw [N_0]; omega
  refine ⟨⟨R.val / 4096, hN⟩, flush_4 a _, ?_⟩
  have e : (ix2 R l : S1179648x128.Idx) = (((cfg0 a).win 4).blk ⟨R.val / 4096, hN⟩).view.emb (ix2 (⟨R.val % 4096, Nat.mod_lt _ (by decide)⟩ : Fin 4096) l) := by
    refine Eq.trans ?_ (emb4 a ⟨R.val / 4096, hN⟩ _ l).symm
    refine congrArg (fun q => ix2 q l) (Fin.ext ?_)
    show R.val = R.val / 4096 * 4096 + R.val % 4096
    omega
  rw [e]
  exact Finset.mem_map_of_mem _ (Finset.mem_univ _)

end Cert.Kernel2Ideal.Moe

end
-- ==== Proof.MoePt.lean ====
/- The tile's arithmetic, read at an entry. -/
module

public import proofs.«01_k».proof.Proof.MoeBody
public import Idealize.ShloMosaic.Lib.Pointwise

@[expose] public section

set_option maxRecDepth 16384

noncomputable section

namespace Cert.Kernel2Ideal.Moe

open Cert.Kernel2Ideal Cert.Kernel2Ideal.Gen
open Idealize.ShloMosaic Idealize.ShloMosaic.TcCoe

/-- Entry `l` of lane row `s`. -/
def ln (s : Fin 8) (l : Fin 128) : Fin 1024 := ⟨s.val * 128 + l.val, by omega⟩
/-- Lane row `s` of token row `r`. -/
def rw8 (r : Fin 512) (s : Fin 8) : Fin 4096 := ⟨r.val * 8 + s.val, by omega⟩

theorem pay13_at (v0 v1 v2 v3 v4 v5 v6 v7 : Vec Ideal S512x128 .f32) (r : Fin 512) (s : Fin 8) (l : Fin 128) :
    k0_pay13 (F := Ideal) v0 v1 v2 v3 v4 v5 v6 v7 (ix2 r (ln s l)) = (![v0, v1, v2, v3, v4, v5, v6, v7] s) (ix2 r l) := by
  have key : ∀ (k : Nat) (hk : k < 8) (v : Vec Ideal S512x128 .f32) (hx : _) (ek : s.val = k), _ :=
    fun k hk v hx ek => (concatenate_apply_piece (t := S512x1024) 1 [⟨S512x128, shapeCast S512x128 v0 shapeCasts_S512x128_S512x128⟩, ⟨S512x128, shapeCast S512x128 v1 shapeCasts_S512x128_S512x128⟩, ⟨S512x128, shapeCast S512x128 v2 shapeCasts_S512x128_S512x128⟩,
        ⟨S512x128, shapeCast S512x128 v3 shapeCasts_S512x128_S512x128⟩, ⟨S512x128, shapeCast S512x128 v4 shapeCasts_S512x128_S512x128⟩, ⟨S512x128, shapeCast S512x128 v5 shapeCasts_S512x128_S512x128⟩, ⟨S512x128, shapeCast S512x128 v6 shapeCasts_S512x128_S512x128⟩,
        ⟨S512x128, shapeCast S512x128 v7 shapeCasts_S512x128_S512x128⟩] concatenates_S512x128_S512x128_S512x128_S512x128_S512x128_S512x128_S512x128_S512x128_S512x1024_d1 (ix2 r (ln s l)) k hk S512x128 (shapeCast S512x128 v shapeCasts_S512x128_S512x128) hx rfl (k * 128) (by interval_cases k <;> rfl)
        (ix2 r l) (fun b hb => by
          match b, hb with
          | ⟨0, _⟩, _ => rfl
          | ⟨1, _⟩, hb => exact absurd rfl hb) (by show k * 128 + l.val = s.val * 128 + l.val; rw [ek])).trans
      (congrFun (shapeCast_self v _) (ix2 r l))
  have hl := s.isLt
  match s, key with
  | ⟨0, _⟩, key => exact key 0 (by omega) v0 rfl rfl
  | ⟨1, _⟩, key => exact key 1 (by omega) v1 rfl rfl
  | ⟨2, _⟩, key => exact key 2 (by omega) v2 rfl rfl
  | ⟨3, _⟩, key => exact key 3 (by omega) v3 rfl rfl
  | ⟨4, _⟩, key => exact key 4 (by omega) v4 rfl rfl
  | ⟨5, _⟩, key => exact key 5 (by omega) v5 rfl rfl
  | ⟨6, _⟩, key => exact key 6 (by omega) v6 rfl rfl
  | ⟨7, _⟩, key => exact key 7 (by omega) v7 rfl rfl

theorem xc_at (x0 : Vec Ideal S4096x128 .f32) (r : Fin 512) (s : Fin 8) (l : Fin 128) :
    xc x0 (ix2 r (ln s l)) = x0 (ix2 (rw8 r s) l) := by
  unfold xc
  refine (pay13_at _ _ _ _ _ _ _ _ r s l).trans ?_
  have hl := s.isLt
  match s with
  | ⟨0, _⟩ =>
    refine congrArg x0 (funext fun a => Fin.ext ?_)
    match a with
    | ⟨0, _⟩ => show 0 + 8 * r.val = r.val * 8 + 0; omega
    | ⟨1, _⟩ => show 0 + 1 * l.val = l.val; omega
  | ⟨1, _⟩ =>
    refine congrArg x0 (funext fun a => Fin.ext ?_)
    match a with
    | ⟨0, _⟩ => show 1 + 8 * r.val = r.val * 8 + 1; omega
    | ⟨1, _⟩ => show 0 + 1 * l.val = l.val; omega
  | ⟨2, _⟩ =>
    refine congrArg x0 (funext fun a => Fin.ext ?_)
    match a with
    | ⟨0, _⟩ => show 2 + 8 * r.val = r.val * 8 + 2; omega
    | ⟨1, _⟩ => show 0 + 1 * l.val = l.val; omega
  | ⟨3, _⟩ =>
    refine congrArg x0 (funext fun a => Fin.ext ?_)
    match a with
    | ⟨0, _⟩ => show 3 + 8 * r.val = r.val * 8 + 3; omega
    | ⟨1, _⟩ => show 0 + 1 * l.val = l.val; omega
  | ⟨4, _⟩ =>
    refine congrArg x0 (funext fun a => Fin.ext ?_)
    match a with
    | ⟨0, _⟩ => show 4 + 8 * r.val = r.val * 8 + 4; omega
    | ⟨1, _⟩ => show 0 + 1 * l.val = l.val; omega
  | ⟨5, _⟩ =>
    refine congrArg x0 (funext fun a => Fin.ext ?_)
    match a with
    | ⟨0, _⟩ => show 5 + 8 * r.val = r.val * 8 + 5; omega
    | ⟨1, _⟩ => show 0 + 1 * l.val = l.val; omega
  | ⟨6, _⟩ =>
    refine congrArg x0 (funext fun a => Fin.ext ?_)
    match a with
    | ⟨0, _⟩ => show 6 + 8 * r.val = r.val * 8 + 6; omega
    | ⟨1, _⟩ => show 0 + 1 * l.val = l.val; omega
  | ⟨7, _⟩ =>
    refine congrArg x0 (funext fun a => Fin.ext ?_)
    match a with
    | ⟨0, _⟩ => show 7 + 8 * r.val = r.val * 8 + 7; omega
    | ⟨1, _⟩ => show 0 + 1 * l.val = l.val; omega

/-- The token tile times a weight's column. -/
def tm (x0 : Vec Ideal S4096x128 .f32) (g : Vec Ideal S1024x512 .bf16) (r : Fin 512) (f : Fin 512) : EReal :=
  ∑ k : Fin 1024, xc x0 (ix2 r k) * g (ix2 k f)

theorem xg_at (x0 : Vec Ideal S4096x128 .f32) (g : Vec Ideal S1024x512 .bf16) (r : Fin 512) (f : Fin 512) :
    xg x0 g (ix2 r f) = tm x0 g r f * Ideal.logistic (tm x0 g r f) := by
  have hm : ∀ xa : FVec Ideal S512x1024 .bf16, (matmul dot_S512x1024_S1024x512_S512x512_1_0_0_1_n_n none xa (φ₂ := .bf16) g (constant (F := Ideal) S512x512 .f32 0x00000000#32) : FVec Ideal S512x512 .f32) (ix2 r f)
      = ∑ k : Fin 1024, xa (ix2 r k) * g (ix2 k f) := fun xa => by pointwise
  unfold xg k0_pay14
  exact congrArg₂ (· * ·) (hm (xc x0)) (congrArg Ideal.logistic (hm (xc x0)))

theorem pay1_at (xa : FVec Ideal S512x1024 .bf16) (xh : FVec Ideal S512x512 .f32) (g1 : Vec Ideal S1024x512 .bf16) (g2 : Vec Ideal S512x1024 .bf16) (r : Fin 512) (d : Fin 1024) :
    k0_pay1 (F := Ideal) xa xh g1 g2 (ix2 r d) = ∑ f : Fin 512, (xh (ix2 r f) * ∑ k : Fin 1024, xa (ix2 r k) * g1 (ix2 k f)) * g2 (ix2 f d) := by
  pointwise [k0_pay1]

theorem yt_at (M : FVec Ideal S512x1024 .f32) (r : Fin 512) (s : Fin 8) (l : Fin 128) : yt M (ix2 (rw8 r s) l) = M (ix2 r (ln s l)) := by
  have hs := s.isLt
  unfold yt
  refine congrArg M (funext fun a => Fin.ext ?_)
  match a with
  | ⟨0, _⟩ => show (r.val * 8 + s.val) / 8 = r.val; omega
  | ⟨1, _⟩ => show 128 * ((r.val * 8 + s.val) % 8) + l.val = s.val * 128 + l.val; omega

theorem pay10_at (w : Vec Ideal S1x1x1024x512 .f32) (k : Fin 1024) (f : Fin 512) : k0_pay10 (F := Ideal) w (ix2 k f) = w (ix4 0 0 k f) := by
  pointwise [k0_pay10]
theorem pay11_at (w : Vec Ideal S1x1x1024x512 .f32) (k : Fin 1024) (f : Fin 512) : k0_pay11 (F := Ideal) w (ix2 k f) = w (ix4 0 0 k f) := by
  pointwise [k0_pay11]
theorem pay12_at (w : Vec Ideal S1x1x512x1024 .f32) (k : Fin 512) (f : Fin 1024) : k0_pay12 (F := Ideal) w (ix2 k f) = w (ix4 0 0 k f) := by
  pointwise [k0_pay12]

end Cert.Kernel2Ideal.Moe

end
-- ==== Proof.MoeOk.lean ====
/- The expert of every block is a number below thirty-two, whatever the arguments. -/
module

public import proofs.«01_k».proof.Proof.MoeKeep
public import proofs.«01_k».proof.Proof.Gen.Reference2Ideal.Read
public import Idealize.ShloMosaic.Lib.Pipeline.ValueKit

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL.Sem

variable {F : FTy → Type} [FloatOps F]

/-- A running sum of words, each at most one, is at most the number of them. -/
theorem foldl_le {ι : Type} (b : ι → BitVec 32) (hb : ∀ n, (b n).toNat ≤ 1) (l : List ι) :
    ∀ r : BitVec 32, (l.foldl (fun r n => IntOp.addi r (b n)) r).toNat ≤ r.toNat + l.length := by
  induction l with
  | nil => intro r; exact Nat.le_refl _
  | cons n l ih =>
    intro r
    refine (ih _).trans ?_
    have h1 : (IntOp.addi r (b n)).toNat ≤ r.toNat + (b n).toNat := by
      show (r + b n).toNat ≤ _
      rw [BitVec.toNat_add]; exact Nat.mod_le _ _
    have := hb n
    rw [List.length_cons]
    show (IntOp.addi r (b n)).toNat + l.length ≤ _
    omega

/-- The lesser of thirty-one and a word that is not negative is at most thirty-one. -/
theorem min_le (x : BitVec 32) (h : x.toNat < 2 ^ 31) : (IntOp.minsi x 31#32).toNat ≤ 31 := by
  unfold IntOp.minsi
  by_cases hx : x.slt 31#32
  · rw [if_pos hx]
    have hx' : x.toInt < (31#32 : BitVec 32).toInt := by simpa [BitVec.slt] using hx
    have e1 : x.toInt = x.toNat := by rw [BitVec.toInt_eq_toNat_cond, if_pos (by omega)]
    have e2 : (31#32 : BitVec 32).toInt = 31 := by decide
    rw [e1, e2] at hx'
    omega
  · rw [if_neg hx]; decide

theorem bit_le (p : BitVec 1) : (p.setWidth 32).toNat ≤ 1 := by
  have : p.toNat < 2 := p.isLt
  rw [BitVec.toNat_setWidth]
  exact (Nat.mod_le _ _).trans (by omega)

/-- The expert of each block, of the padded group ends. -/
abbrev ex (p : IVec S32 32) : IVec S288 32 := Reference2Ideal.Read.val_main_v11 (F := F) p

theorem ex_le (p : IVec S32 32) (i : S288.Idx) : (ex (F := F) p i).toNat ≤ 31 := by
  rw [show ex (F := F) p i = IntOp.minsi (Reference2Ideal.Read.val_main_v9 (F := F) p i) 31#32 from rfl]
  refine min_le _ ?_
  refine lt_of_le_of_lt (foldl_le (fun n => Reference2Ideal.Read.val_main_v8 (F := F) p (Reference2Ideal.S288x32.rowMajor.symm n)) (fun n => bit_le _) _ _) ?_
  refine lt_of_le_of_lt (Nat.add_le_add (Nat.le_of_eq (show _ = 0 from rfl)) ((List.length_filter_le _ _).trans (Nat.le_of_eq List.length_finRange))) ?_
  show 0 + Shape.numel ⟨2, ![288, 32]⟩ < 2 ^ 31
  simp [Shape.numel, Fin.prod_univ_succ]

variable (m : (ℓ : Loc nD τ sig) → Buf (Elt F) ℓ)

theorem tab_eq (c : Dev nD) : (V m c main_v11 : IVec S288 32) = ex (F := F) (m ((c : Thread nD τ).loc main_arg1)) := by
  entry_read
  rfl

theorem tab_le (i : S288.Idx) : ((V m (0 : Dev nD) main_v11 : IVec S288 32) i).toNat ≤ 31 := by
  rw [tab_eq]; exact ex_le _ i

theorem at_le (i : grid0.Coords) : ((tbl m).at 0 (Rect.unit (s := S288) (k0_off1 i) S1.size (k0_off1_inb i)) numel1_S1).toNat ≤ 31 :=
  tab_le m _

theorem four_le (w : ℕ) (hw : w ≤ 31) (s t : Fin 4 → ℕ) (hs : s 1 = 1) (ht : t 1 = 32) (h0 : s 0 ≤ t 0) (h2 : s 2 ≤ t 2) (h3 : s 3 ≤ t 3) :
    ∀ a, ((![0, w, 0, 0] : Fin 4 → ℕ) a + 1) * s a ≤ t a := by
  intro a
  match a with
  | ⟨0, _⟩ => show (0 + 1) * s 0 ≤ t 0; omega
  | ⟨1, _⟩ => show (w + 1) * s 1 ≤ t 1; rw [hs, ht]; omega
  | ⟨2, _⟩ => show (0 + 1) * s 2 ≤ t 2; omega
  | ⟨3, _⟩ => show (0 + 1) * s 3 ≤ t 3; omega

/-- The blocks of the weights lie inside their arrays. -/
theorem ok : Ok m := by
  refine ⟨fun i => ⟨?_, Or.inl rfl⟩, fun i => ⟨?_, Or.inl rfl⟩, fun i => ⟨?_, Or.inl rfl⟩⟩
  · rw [ix_1 (tbl m) i _ rfl]
    exact four_le _ (at_le m i) S1x1x1024x512.size S2x32x1024x512.size rfl rfl (by decide) (by decide) (by decide)
  · rw [ix_2 (tbl m) i _ rfl]
    exact four_le _ (at_le m i) S1x1x1024x512.size S2x32x1024x512.size rfl rfl (by decide) (by decide) (by decide)
  · rw [ix_3 (tbl m) i _ rfl]
    exact four_le _ (at_le m i) S1x1x512x1024.size S2x32x512x1024.size rfl rfl (by decide) (by decide) (by decide)

end Cert.Kernel2Ideal.Moe

end
-- ==== Proof.MoeRef.lean ====
/- The reference of the expert call, read at an entry. -/
module

public import proofs.«01_k».proof.Proof.MoeOk
public import Idealize.ShloMosaic.Lib.Pointwise
public import Idealize.ShloMosaic.Lib.IdealHost

@[expose] public section

set_option maxRecDepth 16384

noncomputable section

namespace Cert.MoeRef

open Idealize.ShloMosaic Idealize.ShloMosaic.TcCoe Idealize.SL.Sem
open Cert.Reference2Ideal Cert.Reference2Ideal.Gen Cert.Reference2Ideal.Read
open Cert.Kernel2Ideal.Moe (ex ex_le)

/-- The expert of block `n`. -/
def en (p : IVec S32 32) (n : Fin 288) : Fin 32 := ⟨(ex (F := Ideal) p (ix1 n)).toNat, Nat.lt_succ_of_le (ex_le p (ix1 n))⟩

theorem en_val (p : IVec S32 32) (n : Fin 288) : (en p n).val = (ex (F := Ideal) p (ix1 n)).toNat := by
  unfold en
  dsimp only

/-- A word that is not negative is kept. -/
theorem sel_neg (x : BitVec 32) (h : x.toNat ≤ 31) (a : BitVec 32) : Scalar.select (IntOp.cmpi .slt x 0#32) a x = x := by
  have hs : x.slt 0#32 = false := by
    have e : x.toInt = x.toNat := by rw [BitVec.toInt_eq_toNat_cond, if_pos (by omega)]
    simp [BitVec.slt, e]
  rw [show IntOp.cmpi .slt x 0#32 = BitVec.ofBool (x.slt 0#32) from rfl, hs]
  rfl

theorem gather_up {α : Type} (x : (S32x1024x512 : Shape).Idx → α) (ix : IVec S288x1 32) (n : Fin 288) (k : Fin 1024) (f : Fin 512) (e : Fin 32)
    (he : (ix (ix2 n 0)).toNat = e.val) : Host.gather gather_S32x1024x512_S288x1_S288x1024x512_12_0_n_n_0_1_11024512 x ix (ix3 n k f) = x (ix3 e k f) := by
  unfold Host.gather
  refine congrArg x (funext fun a => Fin.ext ?_)
  show (gather_S32x1024x512_S288x1_S288x1024x512_12_0_n_n_0_1_11024512).start (ix3 n k f) ix a + (gather_S32x1024x512_S288x1_S288x1024x512_12_0_n_n_0_1_11024512).batchCoord (ix3 n k f) a + (gather_S32x1024x512_S288x1_S288x1024x512_12_0_n_n_0_1_11024512).offCoord (ix3 n k f) a = _
  rw [GatherDims.batchCoord_eq_zero _ _ _ List.not_mem_nil, Nat.add_zero]
  match a with
  | ⟨0, _⟩ =>
    show gather_S32x1024x512_S288x1_S288x1024x512_12_0_n_n_0_1_11024512.start (ix3 n k f) ix (0 : Fin 3) + gather_S32x1024x512_S288x1_S288x1024x512_12_0_n_n_0_1_11024512.offCoord (ix3 n k f) (0 : Fin 3) = e.val
    rw [GatherDims.offCoord_eq_zero _ _ _ (fun h => ((GatherDims.mem_sKept _ _).mp h).1 (List.mem_singleton.mpr rfl)), Nat.add_zero]
    unfold GatherDims.start
    rw [dif_pos (show (0 : Fin 3) ∈ (gather_S32x1024x512_S288x1_S288x1024x512_12_0_n_n_0_1_11024512).startIndexMap from List.mem_singleton.mpr rfl)]
    have hsi : (gather_S32x1024x512_S288x1_S288x1024x512_12_0_n_n_0_1_11024512).siIdx (ix3 n k f) ⟨List.idxOf (0 : Fin 3) (gather_S32x1024x512_S288x1_S288x1024x512_12_0_n_n_0_1_11024512).startIndexMap,
        List.idxOf_lt_length_iff.2 (List.mem_singleton.mpr rfl)⟩ = ix2 n 0 := by
      funext b; refine Fin.ext ?_
      match b with
      | ⟨0, _⟩ => rfl
      | ⟨1, _⟩ => rfl
    refine (congrArg (fun q => min (ix q).toInt.toNat 31) hsi).trans ?_
    show min (ix (ix2 n 0)).toInt.toNat 31 = e.val
    have := e.isLt
    rw [BitVec.toInt_eq_toNat_cond, if_pos (by omega), he]
    omega
  | ⟨1, _⟩ =>
    show gather_S32x1024x512_S288x1_S288x1024x512_12_0_n_n_0_1_11024512.start (ix3 n k f) ix (1 : Fin 3) + gather_S32x1024x512_S288x1_S288x1024x512_12_0_n_n_0_1_11024512.offCoord (ix3 n k f) (1 : Fin 3) = k.val
    unfold GatherDims.start
    rw [dif_neg (show ¬(1 : Fin 3) ∈ (gather_S32x1024x512_S288x1_S288x1024x512_12_0_n_n_0_1_11024512).startIndexMap by decide), Nat.zero_add]
    unfold GatherDims.offCoord
    rw [dif_pos (show (1 : Fin 3) ∈ (gather_S32x1024x512_S288x1_S288x1024x512_12_0_n_n_0_1_11024512).sKept by decide)]
    rfl
  | ⟨2, _⟩ =>
    show gather_S32x1024x512_S288x1_S288x1024x512_12_0_n_n_0_1_11024512.start (ix3 n k f) ix (2 : Fin 3) + gather_S32x1024x512_S288x1_S288x1024x512_12_0_n_n_0_1_11024512.offCoord (ix3 n k f) (2 : Fin 3) = f.val
    unfold GatherDims.start
    rw [dif_neg (show ¬(2 : Fin 3) ∈ (gather_S32x1024x512_S288x1_S288x1024x512_12_0_n_n_0_1_11024512).startIndexMap by decide), Nat.zero_add]
    unfold GatherDims.offCoord
    rw [dif_pos (show (2 : Fin 3) ∈ (gather_S32x1024x512_S288x1_S288x1024x512_12_0_n_n_0_1_11024512).sKept by decide)]
    rfl

theorem gather_down {α : Type} (x : (S32x512x1024 : Shape).Idx → α) (ix : IVec S288x1 32) (n : Fin 288) (k : Fin 512) (f : Fin 1024) (e : Fin 32)
    (he : (ix (ix2 n 0)).toNat = e.val) : Host.gather gather_S32x512x1024_S288x1_S288x512x1024_12_0_n_n_0_1_15121024 x ix (ix3 n k f) = x (ix3 e k f) := by
  unfold Host.gather
  refine congrArg x (funext fun a => Fin.ext ?_)
  show (gather_S32x512x1024_S288x1_S288x512x1024_12_0_n_n_0_1_15121024).start (ix3 n k f) ix a + (gather_S32x512x1024_S288x1_S288x512x1024_12_0_n_n_0_1_15121024).batchCoord (ix3 n k f) a + (gather_S32x512x1024_S288x1_S288x512x1024_12_0_n_n_0_1_15121024).offCoord (ix3 n k f) a = _
  rw [GatherDims.batchCoord_eq_zero _ _ _ List.not_mem_nil, Nat.add_zero]
  match a with
  | ⟨0, _⟩ =>
    show gather_S32x512x1024_S288x1_S288x512x1024_12_0_n_n_0_1_15121024.start (ix3 n k f) ix (0 : Fin 3) + gather_S32x512x1024_S288x1_S288x512x1024_12_0_n_n_0_1_15121024.offCoord (ix3 n k f) (0 : Fin 3) = e.val
    rw [GatherDims.offCoord_eq_zero _ _ _ (fun h => ((GatherDims.mem_sKept _ _).mp h).1 (List.mem_singleton.mpr rfl)), Nat.add_zero]
    unfold GatherDims.start
    rw [dif_pos (show (0 : Fin 3) ∈ (gather_S32x512x1024_S288x1_S288x512x1024_12_0_n_n_0_1_15121024).startIndexMap from List.mem_singleton.mpr rfl)]
    have hsi : (gather_S32x512x1024_S288x1_S288x512x1024_12_0_n_n_0_1_15121024).siIdx (ix3 n k f) ⟨List.idxOf (0 : Fin 3) (gather_S32x512x1024_S288x1_S288x512x1024_12_0_n_n_0_1_15121024).startIndexMap,
        List.idxOf_lt_length_iff.2 (List.mem_singleton.mpr rfl)⟩ = ix2 n 0 := by
      funext b; refine Fin.ext ?_
      match b with
      | ⟨0, _⟩ => rfl
      | ⟨1, _⟩ => rfl
    refine (congrArg (fun q => min (ix q).toInt.toNat 31) hsi).trans ?_
    show min (ix (ix2 n 0)).toInt.toNat 31 = e.val
    have := e.isLt
    rw [BitVec.toInt_eq_toNat_cond, if_pos (by omega), he]
    omega
  | ⟨1, _⟩ =>
    show gather_S32x512x1024_S288x1_S288x512x1024_12_0_n_n_0_1_15121024.start (ix3 n k f) ix (1 : Fin 3) + gather_S32x512x1024_S288x1_S288x512x1024_12_0_n_n_0_1_15121024.offCoord (ix3 n k f) (1 : Fin 3) = k.val
    unfold GatherDims.start
    rw [dif_neg (show ¬(1 : Fin 3) ∈ (gather_S32x512x1024_S288x1_S288x512x1024_12_0_n_n_0_1_15121024).startIndexMap by decide), Nat.zero_add]
    unfold GatherDims.offCoord
    rw [dif_pos (show (1 : Fin 3) ∈ (gather_S32x512x1024_S288x1_S288x512x1024_12_0_n_n_0_1_15121024).sKept by decide)]
    rfl
  | ⟨2, _⟩ =>
    show gather_S32x512x1024_S288x1_S288x512x1024_12_0_n_n_0_1_15121024.start (ix3 n k f) ix (2 : Fin 3) + gather_S32x512x1024_S288x1_S288x512x1024_12_0_n_n_0_1_15121024.offCoord (ix3 n k f) (2 : Fin 3) = f.val
    unfold GatherDims.start
    rw [dif_neg (show ¬(2 : Fin 3) ∈ (gather_S32x512x1024_S288x1_S288x512x1024_12_0_n_n_0_1_15121024).startIndexMap by decide), Nat.zero_add]
    unfold GatherDims.offCoord
    rw [dif_pos (show (2 : Fin 3) ∈ (gather_S32x512x1024_S288x1_S288x512x1024_12_0_n_n_0_1_15121024).sKept by decide)]
    rfl

theorem slab_gate (w : FVec Ideal S2x32x1024x512 .f32) (e : Fin 32) (k : Fin 1024) (f : Fin 512) :
    val_main_v13 (F := Ideal) w (ix3 e k f) = w (ix4 0 e k f) := by
  rw [val_main_v13_apply, val_main_v12_apply]
  refine congrArg w (funext fun a => Fin.ext ?_)
  have := e.isLt; have := k.isLt; have := f.isLt
  match a with
  | ⟨0, _⟩ => rfl
  | ⟨1, _⟩ => show ((e.val * 1024 + k.val) * 512 + f.val) / 524288 % 32 = e.val; omega
  | ⟨2, _⟩ => show ((e.val * 1024 + k.val) * 512 + f.val) / 512 % 1024 = k.val; omega
  | ⟨3, _⟩ => show ((e.val * 1024 + k.val) * 512 + f.val) % 512 = f.val; omega

theorem slab_up (w : FVec Ideal S2x32x1024x512 .f32) (e : Fin 32) (k : Fin 1024) (f : Fin 512) :
    val_main_v24 (F := Ideal) w (ix3 e k f) = w (ix4 0 e k f) := by
  rw [val_main_v24_apply, val_main_v23_apply]
  refine congrArg w (funext fun a => Fin.ext ?_)
  have := e.isLt; have := k.isLt; have := f.isLt
  match a with
  | ⟨0, _⟩ => rfl
  | ⟨1, _⟩ => show ((e.val * 1024 + k.val) * 512 + f.val) / 524288 % 32 = e.val; omega
  | ⟨2, _⟩ => show ((e.val * 1024 + k.val) * 512 + f.val) / 512 % 1024 = k.val; omega
  | ⟨3, _⟩ => show ((e.val * 1024 + k.val) * 512 + f.val) % 512 = f.val; omega

theorem slab_down (w : FVec Ideal S2x32x512x1024 .f32) (e : Fin 32) (k : Fin 512) (f : Fin 1024) :
    val_main_v35 (F := Ideal) w (ix3 e k f) = w (ix4 0 e k f) := by
  rw [val_main_v35_apply, val_main_v34_apply]
  refine congrArg w (funext fun a => Fin.ext ?_)
  have := e.isLt; have := k.isLt; have := f.isLt
  match a with
  | ⟨0, _⟩ => rfl
  | ⟨1, _⟩ => show ((e.val * 512 + k.val) * 1024 + f.val) / 524288 % 32 = e.val; omega
  | ⟨2, _⟩ => show ((e.val * 512 + k.val) * 1024 + f.val) / 1024 % 512 = k.val; omega
  | ⟨3, _⟩ => show ((e.val * 512 + k.val) * 1024 + f.val) % 1024 = f.val; omega

theorem sel_gate (p : IVec S32 32) (n : Fin 288) : (val_main_v19 (F := Ideal) p (ix2 n 0)).toNat = (en p n).val := by
  rw [val_main_v19_apply, show (idx_main_v19 (ix2 n 0) : S288.Idx) = ix1 n from funext fun a => by fin_cases a; rfl, val_main_v18_apply, val_main_v15_apply, val_main_v14_apply]
  have h := ex_le (F := Ideal) p (ix1 n)
  unfold en
  dsimp only
  unfold ex at h ⊢
  generalize val_main_v11 (F := Ideal) p (ix1 n) = x at h ⊢
  exact congrArg BitVec.toNat (sel_neg x h _)

theorem sel_up (p : IVec S32 32) (n : Fin 288) : (val_main_v30 (F := Ideal) p (ix2 n 0)).toNat = (en p n).val := by
  rw [val_main_v30_apply, show (idx_main_v30 (ix2 n 0) : S288.Idx) = ix1 n from funext fun a => by fin_cases a; rfl, val_main_v29_apply, val_main_v26_apply, val_main_v25_apply]
  have h := ex_le (F := Ideal) p (ix1 n)
  unfold en
  dsimp only
  unfold ex at h ⊢
  generalize val_main_v11 (F := Ideal) p (ix1 n) = x at h ⊢
  exact congrArg BitVec.toNat (sel_neg x h _)

theorem sel_down (p : IVec S32 32) (n : Fin 288) : (val_main_v41 (F := Ideal) p (ix2 n 0)).toNat = (en p n).val := by
  rw [val_main_v41_apply, show (idx_main_v41 (ix2 n 0) : S288.Idx) = ix1 n from funext fun a => by fin_cases a; rfl, val_main_v40_apply, val_main_v37_apply, val_main_v36_apply]
  have h := ex_le (F := Ideal) p (ix1 n)
  unfold en
  dsimp only
  unfold ex at h ⊢
  generalize val_main_v11 (F := Ideal) p (ix1 n) = x at h ⊢
  exact congrArg BitVec.toNat (sel_neg x h _)

theorem gate_at (p : IVec S32 32) (w : FVec Ideal S2x32x1024x512 .f32) (n : Fin 288) (k : Fin 1024) (f : Fin 512) :
    val_main_v20 (F := Ideal) p w (ix3 n k f) = w (ix4 0 (en p n) k f) :=
  (gather_up _ _ n k f (en p n) (sel_gate p n)).trans (slab_gate w (en p n) k f)

theorem up_at (p : IVec S32 32) (w : FVec Ideal S2x32x1024x512 .f32) (n : Fin 288) (k : Fin 1024) (f : Fin 512) :
    val_main_v31 (F := Ideal) p w (ix3 n k f) = w (ix4 0 (en p n) k f) :=
  (gather_up _ _ n k f (en p n) (sel_up p n)).trans (slab_up w (en p n) k f)

theorem down_at (p : IVec S32 32) (w : FVec Ideal S2x32x512x1024 .f32) (n : Fin 288) (k : Fin 512) (f : Fin 1024) :
    val_main_v42 (F := Ideal) p w (ix3 n k f) = w (ix4 0 (en p n) k f) :=
  (gather_down _ _ n k f (en p n) (sel_down p n)).trans (slab_down w (en p n) k f)

variable (x : FVec Ideal S288x512x1024 .f32) (p : IVec S32 32) (wg wu : FVec Ideal S2x32x1024x512 .f32) (wd : FVec Ideal S2x32x512x1024 .f32)

/-- A token row times a column of an expert's weight. -/
def mm (w : FVec Ideal S2x32x1024x512 .f32) (n : Fin 288) (r : Fin 512) (f : Fin 512) : EReal :=
  ∑ k : Fin 1024, x (ix3 n r k) * w (ix4 0 (en p n) k f)

/-- The layer's entry: gate, up, and down. -/
def entry (n : Fin 288) (r : Fin 512) (d : Fin 1024) : EReal :=
  ∑ f : Fin 512, mm x p wg n r f * Ideal.logistic (mm x p wg n r f) * mm x p wu n r f * wd (ix4 0 (en p n) f d)

theorem v21_at (n : Fin 288) (r : Fin 512) (f : Fin 512) : val_main_v21 (F := Ideal) x p wg (ix3 n r f) = mm x p wg n r f := by
  rw [val_main_v21_apply]
  refine Finset.sum_congr rfl fun k _ => ?_
  rw [show (lidx_main_v21 (ix3 n r f) k : S288x512x1024.Idx) = ix3 n r k from funext fun a => by fin_cases a <;> rfl,
    show (ridx_main_v21 (ix3 n r f) k : S288x1024x512.Idx) = ix3 n k f from funext fun a => by fin_cases a <;> rfl, gate_at]

theorem v32_at (n : Fin 288) (r : Fin 512) (f : Fin 512) : val_main_v32 (F := Ideal) x p wu (ix3 n r f) = mm x p wu n r f := by
  rw [val_main_v32_apply]
  refine Finset.sum_congr rfl fun k _ => ?_
  rw [show (lidx_main_v32 (ix3 n r f) k : S288x512x1024.Idx) = ix3 n r k from funext fun a => by fin_cases a <;> rfl,
    show (ridx_main_v32 (ix3 n r f) k : S288x1024x512.Idx) = ix3 n k f from funext fun a => by fin_cases a <;> rfl, up_at]

theorem v22_at (i : S288x512x512.Idx) : val_main_v22 (F := Ideal) x p wg i
    = val_main_v21 (F := Ideal) x p wg i * Ideal.logistic (val_main_v21 (F := Ideal) x p wg i) := by
  rw [val_main_v22_apply, val_main_call0_v5_apply, val_main_call0_v4_apply, val_main_call0_cst_0_apply, val_main_call0_v3_apply,
    val_main_call0_v2_apply, val_main_call0_cst_apply, val_main_call0_v1_apply, val_main_call0_v0_apply]
  generalize val_main_v21 (F := Ideal) x p wg i = g
  show g * Ideal.div (Ideal.ofBits .f32 0x3F800000#32) (Ideal.ofBits .f32 0x3F800000#32 + Ideal.exp (-g)) = g * Ideal.logistic g
  rw [Ideal.ofBits_one_f32]
  rfl

theorem v43_at (n : Fin 288) (r : Fin 512) (d : Fin 1024) : val_main_v43 (F := Ideal) x p wg wu wd (ix3 n r d) = entry x p wg wu wd n r d := by
  rw [val_main_v43_apply]
  refine Finset.sum_congr rfl fun f _ => ?_
  rw [show (lidx_main_v43 (ix3 n r d) f : S288x512x512.Idx) = ix3 n r f from funext fun a => by fin_cases a <;> rfl,
    show (ridx_main_v43 (ix3 n r d) f : S288x512x1024.Idx) = ix3 n f d from funext fun a => by fin_cases a <;> rfl, down_at,
    val_main_v33_apply, v22_at, v21_at, v32_at]
  rfl

/-- Entry `l` of lane row `s` of token row `r`. -/
def lane (s : Fin 8) (l : Fin 128) : Fin 1024 := ⟨s.val * 128 + l.val, by omega⟩
/-- Lane row `s` of token row `r` of block `n`. -/
def lrow (n : Fin 288) (r : Fin 512) (s : Fin 8) : Fin 1179648 := ⟨n.val * 4096 + (r.val * 8 + s.val), by omega⟩

theorem idx44_at (n : Fin 288) (r : Fin 512) (s : Fin 8) (l : Fin 128) : (idx_main_v44 (ix2 (lrow n r s) l) : S288x512x1024.Idx) = ix3 n r (lane s l) := by
  have := n.isLt; have := r.isLt; have := s.isLt; have := l.isLt
  refine funext fun a => Fin.ext ?_
  match a with
  | ⟨0, _⟩ => show ((n.val * 4096 + (r.val * 8 + s.val)) * 128 + l.val) / 524288 = n.val; omega
  | ⟨1, _⟩ => show ((n.val * 4096 + (r.val * 8 + s.val)) * 128 + l.val) / 1024 % 512 = r.val; omega
  | ⟨2, _⟩ => show ((n.val * 4096 + (r.val * 8 + s.val)) * 128 + l.val) % 1024 = s.val * 128 + l.val; omega

theorem ref_at (n : Fin 288) (r : Fin 512) (s : Fin 8) (l : Fin 128) :
    val_main_v44 (F := Ideal) x p wg wu wd (ix2 (lrow n r s) l) = entry x p wg wu wd n r (lane s l) := by
  rw [val_main_v44_apply, idx44_at, v43_at]

end Cert.MoeRef

end
-- ==== Proof.MoeVal.lean ====
/- The expert call: its result array is the reference's. -/
module

public import proofs.«01_k».proof.Proof.MoeGeo
public import proofs.«01_k».proof.Proof.MoePt
public import proofs.«01_k».proof.Proof.MoeRef

@[expose] public section

set_option maxRecDepth 16384

noncomputable section

namespace Cert.Kernel2Ideal.Moe

open Cert.Kernel2Ideal Cert.Kernel2Ideal.Gen
open Idealize.ShloMosaic Idealize.ShloMosaic.TcCoe
open Cert.MoeRef (en en_val lane lrow mm entry)

variable (m : (ℓ : Loc nD τ sig) → Buf (Elt Ideal) ℓ) (c : Dev nD)

/-- The five arguments. -/
abbrev ax : FVec Ideal S288x512x1024 .f32 := m ((c : Thread nD τ).loc main_arg0)
abbrev ap : IVec S32 32 := m ((c : Thread nD τ).loc main_arg1)
abbrev ag : FVec Ideal S2x32x1024x512 .f32 := m ((c : Thread nD τ).loc main_arg2)
abbrev au : FVec Ideal S2x32x1024x512 .f32 := m ((c : Thread nD τ).loc main_arg3)
abbrev ad : FVec Ideal S2x32x512x1024 .f32 := m ((c : Thread nD τ).loc main_arg4)

/-- The block of point `t`. -/
def bn (t : Fin grid0.N) : Fin 288 := ⟨t.val, lt_of_lt_of_eq t.isLt N_0⟩

theorem wd_eq (t : Fin grid0.N) : (wd m t).toNat = (en (ap m c) (bn t)).val := by
  obtain rfl : c = 0 := Subsingleton.elim _ _
  unfold wd
  rw [tab_eq, en_val]
  unfold bn
  generalize ex (F := Ideal) (m (((0 : Dev nD) : Thread nD τ).loc main_arg1)) = q
  rfl

theorem ixw_1 (hO : Ok m) (t : Fin (cfgM m hO).N) : ((cfgM m hO).win 1).index t = ![0, (en (ap m c) (bn t)).val, 0, 0] :=
  (index_1 m hO t).trans (congrArg (fun w : ℕ => (![0, w, 0, 0] : Fin 4 → ℕ)) (wd_eq m c t))
theorem ixw_2 (hO : Ok m) (t : Fin (cfgM m hO).N) : ((cfgM m hO).win 2).index t = ![0, (en (ap m c) (bn t)).val, 0, 0] :=
  (index_2 m hO t).trans (congrArg (fun w : ℕ => (![0, w, 0, 0] : Fin 4 → ℕ)) (wd_eq m c t))
theorem ixw_3 (hO : Ok m) (t : Fin (cfgM m hO).N) : ((cfgM m hO).win 3).index t = ![0, (en (ap m c) (bn t)).val, 0, 0] :=
  (index_3 m hO t).trans (congrArg (fun w : ℕ => (![0, w, 0, 0] : Fin 4 → ℕ)) (wd_eq m c t))

theorem host12 : (V m c main_v12 : FVec Ideal S1179648x128 .f32) = shapeCast S1179648x128 (ax m c) shapeCasts_S288x512x1024_S1179648x128 := by
  entry_read
  rfl

theorem flat_at (x : FVec Ideal S288x512x1024 .f32) (n : Fin 288) (r : Fin 512) (s : Fin 8) (l : Fin 128) :
    shapeCast S1179648x128 x shapeCasts_S288x512x1024_S1179648x128 (ix2 (lrow n r s) l) = x (ix3 n r (lane s l)) := by
  refine shapeCast_apply x shapeCasts_S288x512x1024_S1179648x128 (ix2 (lrow n r s) l) (ix3 n r (lane s l)) ?_
  rewrite [Shape.rowMajor_val_three, Shape.rowMajor_val_two]
  show (n.val * 512 + r.val) * 1024 + (s.val * 128 + l.val) = (n.val * 4096 + (r.val * 8 + s.val)) * 128 + l.val
  omega

theorem ib0 (hO : Ok m) (t : Fin (cfgM m hO).N) (r : Fin 512) (s : Fin 8) (l : Fin 128) :
    (iblk m hO c 0 t : FVec Ideal S4096x128 .f32) (ix2 (rw8 r s) l) = ax m c (ix3 (bn t) r (lane s l)) := by
  refine (congrArg (V m c main_v12 : FVec Ideal S1179648x128 .f32) (emb0 (adm m hO) t (rw8 r s) l)).trans ?_
  rw [host12]
  exact flat_at (ax m c) (bn t) r s l
theorem ib1 (hO : Ok m) (t : Fin (cfgM m hO).N) (k : Fin 1024) (f : Fin 512) :
    (iblk m hO c 1 t : FVec Ideal S1x1x1024x512 .f32) (ix4 0 0 k f) = ag m c (ix4 0 (en (ap m c) (bn t)) k f) :=
  (congrArg (V m c main_arg2 : FVec Ideal S2x32x1024x512 .f32) (emb1 (adm m hO) t _ (ixw_1 m c hO t) k f)).trans (congrFun (V_main_arg2 m c) _)
theorem ib2 (hO : Ok m) (t : Fin (cfgM m hO).N) (k : Fin 1024) (f : Fin 512) :
    (iblk m hO c 2 t : FVec Ideal S1x1x1024x512 .f32) (ix4 0 0 k f) = au m c (ix4 0 (en (ap m c) (bn t)) k f) :=
  (congrArg (V m c main_arg3 : FVec Ideal S2x32x1024x512 .f32) (emb2 (adm m hO) t _ (ixw_2 m c hO t) k f)).trans (congrFun (V_main_arg3 m c) _)
theorem ib3 (hO : Ok m) (t : Fin (cfgM m hO).N) (k : Fin 512) (f : Fin 1024) :
    (iblk m hO c 3 t : FVec Ideal S1x1x512x1024 .f32) (ix4 0 0 k f) = ad m c (ix4 0 (en (ap m c) (bn t)) k f) :=
  (congrArg (V m c main_arg4 : FVec Ideal S2x32x512x1024 .f32) (emb3 (adm m hO) t _ (ixw_3 m c hO t) k f)).trans (congrFun (V_main_arg4 m c) _)

/-- The tile's tokens are the block's. -/
theorem tok_at (hO : Ok m) (t : Fin (cfgM m hO).N) (r : Fin 512) (k : Fin 1024) :
    xc (iblk m hO c 0 t) (ix2 r k) = ax m c (ix3 (bn t) r k) := by
  obtain ⟨s, l, rfl⟩ : ∃ (s : Fin 8) (l : Fin 128), k = ln s l :=
    ⟨⟨k.val / 128, by omega⟩, ⟨k.val % 128, by omega⟩, Fin.ext (show k.val = k.val / 128 * 128 + k.val % 128 by omega)⟩
  exact (xc_at _ r s l).trans (ib0 m c hO t r s l)

theorem gate_mm (hO : Ok m) (t : Fin (cfgM m hO).N) (r : Fin 512) (f : Fin 512) :
    tm (iblk m hO c 0 t) (bw0 m hO c t) r f = mm (ax m c) (ap m c) (ag m c) (bn t) r f :=
  Finset.sum_congr rfl fun k _ => congrArg₂ (· * ·) (tok_at m c hO t r k) ((pay10_at _ k f).trans (ib1 m c hO t k f))

theorem up_mm (hO : Ok m) (t : Fin (cfgM m hO).N) (r : Fin 512) (f : Fin 512) :
    (∑ k : Fin 1024, xc (iblk m hO c 0 t) (ix2 r k) * bw1 m hO c t (ix2 k f) : EReal) = mm (ax m c) (ap m c) (au m c) (bn t) r f :=
  Finset.sum_congr rfl fun k _ => congrArg₂ (· * ·) (tok_at m c hO t r k) ((pay11_at _ k f).trans (ib2 m c hO t k f))

theorem gated (hO : Ok m) (t : Fin (cfgM m hO).N) (r : Fin 512) (f : Fin 512) :
    xg (iblk m hO c 0 t) (bw0 m hO c t) (ix2 r f)
      = mm (ax m c) (ap m c) (ag m c) (bn t) r f * Ideal.logistic (mm (ax m c) (ap m c) (ag m c) (bn t) r f) := by
  refine (xg_at _ _ r f).trans ?_
  rw [gate_mm]

theorem oy_at (hO : Ok m) (t : Fin (cfgM m hO).N) (r : Fin 512) (s : Fin 8) (l : Fin 128) :
    oy m hO c t (ix2 (rw8 r s) l) = entry (ax m c) (ap m c) (ag m c) (au m c) (ad m c) (bn t) r (lane s l) := by
  unfold oy
  refine (yt_at _ r s l).trans ((pay1_at _ _ _ _ r (ln s l)).trans ?_)
  unfold entry
  exact Finset.sum_congr rfl fun f _ => congrArg₂ (· * ·) (congrArg₂ (· * ·) (gated m c hO t r f) (up_mm m c hO t r f))
    ((pay12_at _ f (ln s l)).trans (ib3 m c hO t f (ln s l)))

/-- The reference's result on the call's arguments. -/
abbrev want : FVec Ideal S1179648x128 .f32 := Reference2Ideal.Read.val_main_v44 (F := Ideal) (ax m c) (ap m c) (ag m c) (au m c) (ad m c)

theorem out_at (hO : Ok m) (t : Fin (cfgM m hO).N) (R : Fin 4096) (l : Fin 128) :
    oy m hO c t (ix2 R l) = want m c ((((cfgM m hO).win 4).blk t).view.emb (ix2 R l)) := by
  refine Eq.trans ?_ (congrArg (want m c) (emb4 (adm m hO) t R l).symm)
  obtain ⟨r, s, rfl⟩ : ∃ (r : Fin 512) (s : Fin 8), R = rw8 r s :=
    ⟨⟨R.val / 8, by omega⟩, ⟨R.val % 8, by omega⟩, Fin.ext (show R.val = R.val / 8 * 8 + R.val % 8 by omega)⟩
  exact (oy_at m c hO t r s l).trans (MoeRef.ref_at (ax m c) (ap m c) (ag m c) (au m c) (ad m c) (bn t) r s l).symm

theorem two (y : S4096x128.Idx) : ∃ (R : Fin 4096) (l : Fin 128), y = ix2 R l := ⟨y 0, y 1, by funext a; fin_cases a <;> rfl⟩

theorem final (hO : Ok m) : (dats m hO 0 c).arrAt 4 (cfgM m hO).N = want m c := by
  refine (dats m hO 0 c).arrAt_eq_of_emb 4 _ (fun t _ y => ?_) (cover_4 (adm m hO))
  obtain ⟨R, l, rfl⟩ : ∃ (R : Fin 4096) (l : Fin 128), y = ix2 R l := two y
  exact (congrFun (after0_4 m hO c t) (ix2 R l)).trans (out_at m c hO t R l)

end Cert.Kernel2Ideal.Moe

end
-- ==== Proof.MoeAlg.lean ====
/- The experts' call and its reference end with the same array. -/
module

public import proofs.«01_k».proof.Proof.MoeVal
public import proofs.«01_k».proof.Defs

@[expose] public section

set_option maxRecDepth 16384

noncomputable section

namespace Cert.Kernel2Ideal.Moe

open Idealize.ShloMosaic Idealize.SL.Sem

/-- Where the arguments agree, the reference's result is what the call's result array ends at. -/
theorem same (m : (ℓ : Loc Cert.Kernel2Ideal.nD Cert.Kernel2Ideal.τ Cert.Kernel2Ideal.sig) → Buf (Elt Ideal) ℓ)
    (c : Dev Cert.Kernel2Ideal.nD) (x0 x1 x2 x3 x4)
    (h0 : x0 = ax m c) (h1 : x1 = ap m c) (h2 : x2 = ag m c) (h3 : x3 = au m c) (h4 : x4 = ad m c) :
    Cert.Reference2Ideal.Read.val_main_v44 (F := Ideal) x0 x1 x2 x3 x4 = (dats m (ok m) 0 c).arrAt 4 (cfgM m (ok m)).N := by
  subst h0; subst h1; subst h2; subst h3; subst h4
  exact (final m c (ok m)).symm

theorem algebraic2 : Cert.algebraic_Kernel2Ideal_Reference2Ideal := by
  intro m g m' g' _ hagree
  refine ⟨fun c => (dats m (ok m) 0 c).arrAt 4 (cfgM m (ok m)).N, ?_, ?_⟩
  · exact (θ_run Cert.Kernel2Ideal.defs _ _).mono (fun r h c => ⟨(h.1 c).1 4, h.2 c⟩)
      (θ_run_and (run_main m g (ok m)) (unchanged m g (ok m)))
  · refine (θ_run Cert.Reference2Ideal.defs _ _).mono (fun r h c => ⟨?_, (h c).2⟩) (Cert.Reference2Ideal.Value.run (F := Ideal) m' g')
    refine (h c).1.trans ?_
    rw [Cert.Reference2Ideal.Read.val_main_v44_eq]
    obtain ⟨h0, h1, h2, h3, h4⟩ := hagree c
    exact same m c _ _ _ _ _ h0 h1 h2 h3 h4

end Cert.Kernel2Ideal.Moe

end
-- ==== Proof.Proj.lean ====
/- The output projection: its result array is the residual plus the product of the joined halves. -/
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.Claim

@[expose] public section

set_option maxRecDepth 16384

noncomputable section

namespace Cert.Proj

open Idealize.ShloMosaic Idealize.ShloMosaic.TcCoe Idealize.SL.Sem
open Cert.Kernel3Ideal Cert.Kernel3Ideal.Gen

/-- The two products and the residual, at one entry. -/
theorem pay_at (a : Vec Ideal S512x512 .bf16) (w : Vec Ideal S512x1024 .bf16) (b : Vec Ideal S512x512 .bf16) (v : Vec Ideal S512x1024 .bf16)
    (x : Vec Ideal S512x1024 .f32) (r : Fin 512) (j : Fin 1024) :
    k0_pay1 (F := Ideal) a w b v x (ix2 r j)
      = x (ix2 r j) + ((∑ k : Fin 512, a (ix2 r k) * w (ix2 k j)) + ∑ k : Fin 512, b (ix2 r k) * v (ix2 k j)) := by
  pointwise [k0_pay1]

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![1, 0] ∧ win0_4.index t = ![t.val, 0] ∧ win0_5.index t = ![t.val, 0] :=
  (by decide +kernel : ∀ t : Fin grid0.N, _)

/-- Row `r` of the block at point `t`. -/
def row (t : Fin cfg0.N) (r : Fin 512) : Fin 65536 := ⟨t.val * 512 + r.val, by
  have : t.val < 128 := Nat.lt_of_lt_of_eq t.isLt (by decide +kernel : grid0.N = 128)
  have := r.isLt; omega⟩
/-- Row `k` of the weight's upper half, and of its lower half. -/
def up (k : Fin 512) : Fin 1024 := ⟨k.val, by omega⟩
def lo (k : Fin 512) : Fin 1024 := ⟨512 + k.val, by omega⟩

theorem emb0 (t : Fin cfg0.N) (r k : Fin 512) : ((win0_0.blk t).view.emb (ix2 r k) : S65536x512.Idx) = ix2 (row t r) k := by
  blk_ext [idx t, row]
theorem emb1 (t : Fin cfg0.N) (r k : Fin 512) : ((win0_1.blk t).view.emb (ix2 r k) : S65536x512.Idx) = ix2 (row t r) k := by
  blk_ext [idx t, row]
theorem emb2 (t : Fin cfg0.N) (k : Fin 512) (j : Fin 1024) : ((win0_2.blk t).view.emb (ix2 k j) : S1024x1024.Idx) = ix2 (up k) j := by
  blk_ext [idx t, up]
theorem emb3 (t : Fin cfg0.N) (k : Fin 512) (j : Fin 1024) : ((win0_3.blk t).view.emb (ix2 k j) : S1024x1024.Idx) = ix2 (lo k) j := by
  blk_ext [idx t, lo]
theorem emb4 (t : Fin cfg0.N) (r : Fin 512) (j : Fin 1024) : ((win0_4.blk t).view.emb (ix2 r j) : S65536x1024.Idx) = ix2 (row t r) j := by
  blk_ext [idx t, row]
theorem emb5 (t : Fin cfg0.N) (r : Fin 512) (j : Fin 1024) : ((win0_5.blk t).view.emb (ix2 r j) : S65536x1024.Idx) = ix2 (row t r) j := by
  blk_ext [idx t, row]

variable (c : Dev nD)

/-- The four arguments. -/
abbrev aa : FVec Ideal S65536x512 .f32 := m ((c : Thread nD τ).loc main_arg0)
abbrev ab : FVec Ideal S65536x512 .f32 := m ((c : Thread nD τ).loc main_arg1)
abbrev aw : FVec Ideal S1024x1024 .f32 := m ((c : Thread nD τ).loc main_arg2)
abbrev ax : FVec Ideal S65536x1024 .f32 := m ((c : Thread nD τ).loc main_arg3)

theorem host0 : (V m c main_v0 : FVec Ideal S65536x512 .bf16) = aa m c := by
  entry_read
  rfl
theorem host1 : (V m c main_v1 : FVec Ideal S65536x512 .bf16) = ab m c := by
  entry_read
  rfl
theorem host2 : (V m c main_v2 : FVec Ideal S1024x1024 .bf16) = aw m c := by
  entry_read
  rfl
theorem host3 : (V m c main_arg3 : FVec Ideal S65536x1024 .f32) = ax m c := by
  entry_read
  rfl

theorem ib0 (t : Fin cfg0.N) (r k : Fin 512) : (iblk m c 0 t : FVec Ideal S512x512 .bf16) (ix2 r k) = aa m c (ix2 (row t r) k) := by
  show (V m c main_v0 : FVec Ideal S65536x512 .bf16) ((win0_0.blk t).view.emb (ix2 r k)) = _
  rw [emb0, host0]
theorem ib1 (t : Fin cfg0.N) (r k : Fin 512) : (iblk m c 1 t : FVec Ideal S512x512 .bf16) (ix2 r k) = ab m c (ix2 (row t r) k) := by
  show (V m c main_v1 : FVec Ideal S65536x512 .bf16) ((win0_1.blk t).view.emb (ix2 r k)) = _
  rw [emb1, host1]
theorem ib2 (t : Fin cfg0.N) (k : Fin 512) (j : Fin 1024) : (iblk m c 2 t : FVec Ideal S512x1024 .bf16) (ix2 k j) = aw m c (ix2 (up k) j) := by
  show (V m c main_v2 : FVec Ideal S1024x1024 .bf16) ((win0_2.blk t).view.emb (ix2 k j)) = _
  rw [emb2, host2]
theorem ib3 (t : Fin cfg0.N) (k : Fin 512) (j : Fin 1024) : (iblk m c 3 t : FVec Ideal S512x1024 .bf16) (ix2 k j) = aw m c (ix2 (lo k) j) := by
  show (V m c main_v2 : FVec Ideal S1024x1024 .bf16) ((win0_3.blk t).view.emb (ix2 k j)) = _
  rw [emb3, host2]
theorem ib4 (t : Fin cfg0.N) (r : Fin 512) (j : Fin 1024) : (iblk m c 4 t : FVec Ideal S512x1024 .f32) (ix2 r j) = ax m c (ix2 (row t r) j) := by
  show (V m c main_arg3 : FVec Ideal S65536x1024 .f32) ((win0_4.blk t).view.emb (ix2 r j)) = _
  rw [emb4, host3]

/-- A sum over the joined axis is the sum over the first half and the sum over the second. -/
theorem sum_halves (f : Fin 1024 → EReal) : ∑ k : Fin 1024, f k = (∑ k : Fin 512, f (up k)) + ∑ k : Fin 512, f (lo k) :=
  Fin.sum_univ_add (a := 512) (b := 512) f

theorem cat_up (a b : FVec Ideal S65536x512 .f32) (r : Fin 65536) (k : Fin 512) :
    Reference3Ideal.Read.val_main_v0 (F := Ideal) a b (ix2 r (up k)) = a (ix2 r k) := by
  refine concatenate_apply_piece (t := Reference3Ideal.S65536x1024) 1 _ _ (ix2 r (up k)) 0 (by show 0 < 2; omega) S65536x512 a rfl rfl 0 rfl (ix2 r k) (fun q hq => ?_) ?_
  · match q, hq with
    | ⟨0, _⟩, _ => rfl
    | ⟨1, _⟩, hq => exact absurd rfl hq
  · exact Nat.zero_add _

theorem cat_lo (a b : FVec Ideal S65536x512 .f32) (r : Fin 65536) (k : Fin 512) :
    Reference3Ideal.Read.val_main_v0 (F := Ideal) a b (ix2 r (lo k)) = b (ix2 r k) := by
  refine concatenate_apply_piece (t := Reference3Ideal.S65536x1024) 1 _ _ (ix2 r (lo k)) 1 (by show 1 < 2; omega) S65536x512 b rfl rfl 512 rfl (ix2 r k) (fun q hq => ?_) ?_
  · match q, hq with
    | ⟨0, _⟩, _ => rfl
    | ⟨1, _⟩, hq => exact absurd rfl hq
  · rfl

theorem lidx_at (r : Fin 65536) (j k : Fin 1024) : Reference3Ideal.Read.lidx_main_v1 (ix2 r j) k = ix2 r k := by
  funext a; fin_cases a <;> rfl
theorem ridx_at (r : Fin 65536) (j k : Fin 1024) : Reference3Ideal.Read.ridx_main_v1 (ix2 r j) k = ix2 k j := by
  funext a; fin_cases a <;> rfl

theorem ref_at (a b : FVec Ideal S65536x512 .f32) (w : FVec Ideal S1024x1024 .f32) (x : FVec Ideal S65536x1024 .f32) (r : Fin 65536) (j : Fin 1024) :
    Reference3Ideal.Read.val_main_v2 (F := Ideal) a b w x (ix2 r j)
      = x (ix2 r j) + ((∑ k : Fin 512, a (ix2 r k) * w (ix2 (up k) j)) + ∑ k : Fin 512, b (ix2 r k) * w (ix2 (lo k) j)) := by
  rw [Reference3Ideal.Read.val_main_v2_apply, Reference3Ideal.Read.val_main_v1_apply, sum_halves]
  refine congrArg (x (ix2 r j) + ·) (congrArg₂ (· + ·) (Finset.sum_congr rfl fun k _ => ?_) (Finset.sum_congr rfl fun k _ => ?_))
  · rw [lidx_at, ridx_at, cat_up]
  · rw [lidx_at, ridx_at, cat_lo]

theorem outs_at (t : Fin cfg0.N) (r : Fin 512) (j : Fin 1024) :
    out0_5 (iblk m c 0 t) (iblk m c 1 t) (iblk m c 2 t) (iblk m c 3 t) (iblk m c 4 t) (ix2 r j) = Reference3Ideal.Read.val_main_v2 (F := Ideal) (aa m c) (ab m c) (aw m c) (ax m c) ((win0_5.blk t).view.emb (ix2 r j)) := by
  rw [emb5, ref_at]
  unfold out0_5
  frame_out
  refine (pay_at _ _ _ _ _ r j).trans ?_
  refine congrArg₂ (· + ·) (ib4 m c t r j) (congrArg₂ (· + ·) (Finset.sum_congr rfl fun k _ => ?_) (Finset.sum_congr rfl fun k _ => ?_))
  · exact congrArg₂ (· * ·) (ib0 m c t r k) (ib2 m c t k j)
  · exact congrArg₂ (· * ·) (ib1 m c t r k) (ib3 m c t k j)

theorem final : (dats m 0 c).arrAt 5 cfg0.N = Reference3Ideal.Read.val_main_v2 (F := Ideal) (aa m c) (ab m c) (aw m c) (ax m c) := by
  refine (dats m 0 c).arrAt_eq_of_covers 5 _ (by decide +kernel) fun t _ y => ?_
  blk_simp
  rw [after0_5]
  obtain ⟨r, j, rfl⟩ : ∃ (r : Fin 512) (j : Fin 1024), y = ix2 r j := ⟨y 0, y 1, by funext a; fin_cases a <;> rfl⟩
  exact outs_at m c t r j

end Cert.Proj

end
-- ==== Proof.Same.lean ====
/- The two printings of the projection and of the experts' call have one text: the frames over bits
   are the frames proved over any float values. -/
module

public import proofs.«01_k».proof.Proof.Gen.Kernel2
public import proofs.«01_k».proof.Proof.Gen.Kernel3
public import proofs.«01_k».proof.Proof.MoeVal
public import proofs.«01_k».proof.Proof.Proj
public import proofs.«01_k».proof.Defs

@[expose] public section

set_option maxRecDepth 16384

noncomputable section

namespace Cert.Same

open Idealize.ShloMosaic Idealize.SL.Sem

/-- The projection's body tables are one. -/
theorem body3 : @Cert.Kernel3.defs₀ Bits _ _ = @Cert.Kernel3Ideal.defs₀ Bits _ _ := by
  unfold Cert.Kernel3.defs₀ Cert.Kernel3Ideal.defs₀
  refine congrArg Defs.onTc ?_
  funext ℓ x
  match ℓ, x with
  | ⟨0, _⟩, (t, s) => rfl

theorem defs3 : @Cert.Kernel3.defs Bits _ _ = @Cert.Kernel3Ideal.defs Bits _ _ :=
  congrArg (Pipeline.defs (Cert.Kernel3.pcfgs (F := Bits))) body3

theorem frame3 : Cert.quiescent_Kernel3 := fun m g _ => by
  rw [defs3]
  exact Cert.Kernel3Ideal.Gen.frame (F := Bits) m g

set_option maxHeartbeats 1600000 in
/-- The experts' body tables are one. -/
theorem body2 : @Cert.Kernel2.defs₀ Bits _ _ = @Cert.Kernel2Ideal.defs₀ Bits _ _ := by
  unfold Cert.Kernel2.defs₀ Cert.Kernel2Ideal.defs₀
  refine congrArg Defs.onTc ?_
  funext ℓ x
  match ℓ, x with
  | ⟨0, _⟩, (t, s) => rfl

theorem defs2 : @Cert.Kernel2.defs Bits _ _ = @Cert.Kernel2Ideal.defs Bits _ _ :=
  congrArg (Pipeline.defs (Cert.Kernel2.pcfgs (F := Bits))) body2

set_option maxHeartbeats 1600000 in
theorem frame2 : Cert.quiescent_Kernel2 := fun m g _ => by
  rw [defs2]
  exact Cert.Kernel2Ideal.Moe.frame (F := Bits) m g (Cert.Kernel2Ideal.Moe.ok m)

end Cert.Same

end
-- ==== Proof.Same4.lean ====
/- The two printings of the input projection have one text: the frame over bits is the frame proved over any float values. -/
module

public import proofs.«01_k».proof.Proof.Gen.Kernel4
public import proofs.«01_k».proof.Proof.Gen.Kernel4Ideal.Frame
public import proofs.«01_k».proof.Defs

@[expose] public section

set_option maxRecDepth 65536

noncomputable section

namespace Cert.Same

open Idealize.ShloMosaic Idealize.SL.Sem

set_option maxHeartbeats 3200000 in
/-- The projection's body tables are one. -/
theorem body4 : @Cert.Kernel4.defs₀ Bits _ _ = @Cert.Kernel4Ideal.defs₀ Bits _ _ := by
  unfold Cert.Kernel4.defs₀ Cert.Kernel4Ideal.defs₀
  refine congrArg Defs.onTc ?_
  funext ℓ x
  match ℓ, x with
  | ⟨0, _⟩, (t, s) => rfl

set_option maxHeartbeats 3200000 in
theorem defs4 : @Cert.Kernel4.defs Bits _ _ = @Cert.Kernel4Ideal.defs Bits _ _ :=
  congrArg (Pipeline.defs (Cert.Kernel4.pcfgs (F := Bits))) body4

set_option maxHeartbeats 3200000 in
theorem frame4 : Cert.quiescent_Kernel4 := fun m g _ => by
  rw [defs4]
  exact Cert.Kernel4Ideal.Gen.frame (F := Bits) m g

end Cert.Same

end
-- ==== Proof.InProjHost.lean ====
/- The input projection: the weight's columns as they are laid out before the call. -/
module

public import proofs.«01_k».proof.Proof.Gen.Kernel4Ideal.Frame
public import Idealize.ShloMosaic.Lib.Pipeline.ValueKit
public import Idealize.ShloMosaic.Lib.StableHlo.RunRead
public import Idealize.ShloMosaic.Lib.Pointwise
public import Idealize.ShloMosaic.Lib.Claim

@[expose] public section

set_option maxRecDepth 16384

noncomputable section

namespace Cert.InProj

open Idealize.ShloMosaic Idealize.ShloMosaic.TcCoe Idealize.SL.Sem
open Cert.Kernel4Ideal Cert.Kernel4Ideal.Gen

/-- The weight's columns as the call lays them out. -/
def wcat (w : FVec Ideal S1024x3352 .f32) : FVec Ideal S1024x3584 .f32 :=
  concatenate S1024x3584 1 [⟨S1024x2048, extractStridedSlice S1024x2048 ![0, 0] w slices_S1024x3352_S1024x2048_0_0⟩,
    ⟨S1024x128, extractStridedSlice S1024x128 ![0, 2560] w slices_S1024x3352_S1024x128_0_2560⟩,
    ⟨S1024x128, extractStridedSlice S1024x128 ![0, 2688] w slices_S1024x3352_S1024x128_0_2688⟩,
    ⟨S1024x12, extractStridedSlice S1024x12 ![0, 3328] w slices_S1024x3352_S1024x12_0_3328⟩,
    ⟨S1024x116, broadcastInDim S1024x116 ![] bcast_S_S1024x116 (constant (F := Ideal) S_ .f32 0x00000000#32)⟩,
    ⟨S1024x12, extractStridedSlice S1024x12 ![0, 3340] w slices_S1024x3352_S1024x12_0_3340⟩,
    ⟨S1024x116, broadcastInDim S1024x116 ![] bcast_S_S1024x116 (constant (F := Ideal) S_ .f32 0x00000000#32)⟩,
    ⟨S1024x512, extractStridedSlice S1024x512 ![0, 2048] w slices_S1024x3352_S1024x512_0_2048⟩,
    ⟨S1024x128, extractStridedSlice S1024x128 ![0, 2816] w slices_S1024x3352_S1024x128_0_2816⟩,
    ⟨S1024x128, extractStridedSlice S1024x128 ![0, 3072] w slices_S1024x3352_S1024x128_0_3072⟩,
    ⟨S1024x128, extractStridedSlice S1024x128 ![0, 2944] w slices_S1024x3352_S1024x128_0_2944⟩,
    ⟨S1024x128, extractStridedSlice S1024x128 ![0, 3200] w slices_S1024x3352_S1024x128_0_3200⟩]
    concatenates_S1024x2048_S1024x128_S1024x128_S1024x12_S1024x116_S1024x12_S1024x116_S1024x512_S1024x128_S1024x128_S1024x128_S1024x128_S1024x3584_d1

set_option maxHeartbeats 1000000 in
theorem host2 (m : (ℓ : Loc nD τ sig) → Buf (Elt Ideal) ℓ) (c : Dev nD) :
    (V m c main_v12 : FVec Ideal S1024x3584 .bf16) = wcat (m ((c : Thread nD τ).loc main_arg2)) := by
  show StableHlo.after hostOps0 (fun b => m (c, b)) main_v12 = _
  after_reads_simp
  rfl

end Cert.InProj

end
-- ==== Proof.InProj.lean ====
/- The input projection: its first result is the product of the normalized rows with the weight's selected columns. -/
module

public import proofs.«01_k».proof.Proof.Gen.Kernel4Ideal.Value
public import proofs.«01_k».proof.Proof.InProjHost
public import proofs.«01_k».proof.Proof.Gen.Reference4Ideal.Read
public import Idealize.ShloMosaic.Lib.Pipeline.ValueKit
public import Idealize.ShloMosaic.Lib.Pointwise
public import Idealize.ShloMosaic.Lib.Claim

@[expose] public section

set_option maxRecDepth 16384

noncomputable section

namespace Cert.InProj

open Idealize.ShloMosaic Idealize.ShloMosaic.TcCoe Idealize.SL.Sem
open Cert.Kernel4Ideal Cert.Kernel4Ideal.Gen

/-- A row divided by the root of its mean square, and scaled. -/
def nrm (x g : Fin 1024 → EReal) (k : Fin 1024) : EReal :=
  x k * Ideal.rsqrt (Ideal.div (∑ k : Fin 1024, x k * x k) (Ideal.ofBits .f32 0x44800000#32) + Ideal.ofBits .f32 0x358637BD#32) * g k

theorem pay2_at (x : Vec Ideal S512x1024 .f32) (g : Vec Ideal S1x1024 .f32) (r : Fin 512) (k : Fin 1024) :
    k0_pay2 (F := Ideal) x g (ix2 r k) = nrm (fun k => x (ix2 r k)) (fun k => g (ix2 0 k)) k := by
  pointwise [k0_pay2, nrm]

theorem pay3_at (x : Vec Ideal S512x1024 .f32) (g : Vec Ideal S1x1024 .f32) (w : Vec Ideal S1024x512 .bf16) (r : Fin 512) (j : Fin 512) :
    k0_pay3 (F := Ideal) x g w (ix2 r j) = ∑ k : Fin 1024, k0_pay2 (F := Ideal) x g (ix2 r k) * w (ix2 k j) := by
  unfold k0_pay3
  generalize k0_pay2 (F := Ideal) x g = xn
  pointwise

theorem pay4_at (x : Vec Ideal S512x1024 .f32) (g : Vec Ideal S1x1024 .f32) (w : Vec Ideal S1024x512 .bf16) (r : Fin 512) (j : Fin 512) :
    k0_pay4 (F := Ideal) x g w (ix2 r j) = ∑ k : Fin 1024, k0_pay2 (F := Ideal) x g (ix2 r k) * w (ix2 k j) := by
  unfold k0_pay4
  generalize k0_pay2 (F := Ideal) x g = xn
  pointwise

theorem pay5_at (x : Vec Ideal S512x1024 .f32) (g : Vec Ideal S1x1024 .f32) (w : Vec Ideal S1024x512 .bf16) (r : Fin 512) (j : Fin 512) :
    k0_pay5 (F := Ideal) x g w (ix2 r j) = ∑ k : Fin 1024, k0_pay2 (F := Ideal) x g (ix2 r k) * w (ix2 k j) := by
  unfold k0_pay5
  generalize k0_pay2 (F := Ideal) x g = xn
  pointwise

theorem pay6_at (x : Vec Ideal S512x1024 .f32) (g : Vec Ideal S1x1024 .f32) (w : Vec Ideal S1024x512 .bf16) (r : Fin 512) (j : Fin 512) :
    k0_pay6 (F := Ideal) x g w (ix2 r j) = ∑ k : Fin 1024, k0_pay2 (F := Ideal) x g (ix2 r k) * w (ix2 k j) := by
  unfold k0_pay6
  generalize k0_pay2 (F := Ideal) x g = xn
  pointwise

theorem pay7_at (xn : FVec Ideal S512x1024 .bf16) (w : Vec Ideal S1024x512 .bf16) (r : Fin 512) (j : Fin 512) :
    k0_pay7 (F := Ideal) xn w (ix2 r j) = ∑ k : Fin 1024, xn (ix2 r k) * w (ix2 k j) := by
  pointwise [k0_pay7]

/-- Column `j` of the five written groups, among the weight's 3584. -/
def wide (j : Fin 2560) : Fin 3584 := ⟨j.val, by omega⟩

/-- What the block holds at one entry. -/
def G (x : Vec Ideal S512x1024 .f32) (g : Vec Ideal S1x1024 .f32) (w : Vec Ideal S1024x3584 .bf16) : Vec Ideal S512x2560 .f32 := fun y =>
  ∑ k : Fin 1024, nrm (fun k => x (ix2 (y 0) k)) (fun k => g (ix2 0 k)) k * w (ix2 k (wide (y 1)))

/-- A slice of 512 columns of the weight. -/
theorem ldw (w : Vec Ideal S1024x3584 .bf16) (o : Nat) (inb) (k : Fin 1024) (j : Fin 512) (q : Fin 3584) (hq : o + j.val = q.val) :
    (View.ld w (Rect.unit (s := S1024x3584) ![0, o] S1024x512.size inb) : Vec Ideal S1024x512 .bf16) (ix2 k j) = w (ix2 k q) := by
  refine View.ld_unit_apply_of w _ _ inb (ix2 k j : S1024x512.Idx) _ fun a => ?_
  match a with
  | ⟨0, _⟩ => show k.val = 0 + k.val; omega
  | ⟨1, _⟩ => exact hq.symm

/-- One store of 512 columns agrees with the block. -/
theorem piece (x : Vec Ideal S512x1024 .f32) (g : Vec Ideal S1x1024 .f32) (w : Vec Ideal S1024x3584 .bf16) (o : Nat) (inb) (inw) (p : FVec Ideal S512x512 .f32)
    (hp : ∀ (r j : Fin 512), p (ix2 r j) = ∑ k : Fin 1024, k0_pay2 (F := Ideal) x g (ix2 r k)
      * (View.ld w (Rect.unit (s := S1024x3584) ![0, o] S1024x512.size inw) : Vec Ideal S1024x512 .bf16) (ix2 k j))
    (y : S512x512.Idx) : p y = G x g w ((Rect.unit (s := S512x2560) ![0, o] S512x512.size inb).emb y) := by
  obtain ⟨r, j, rfl⟩ : ∃ (r j : Fin 512), y = ix2 r j := ⟨y 0, y 1, by funext a; fin_cases a <;> rfl⟩
  have ho : o + 512 ≤ 2560 := inb 1
  have e : (Rect.unit (s := S512x2560) ![0, o] S512x512.size inb).emb (ix2 r j) = (ix2 r (⟨o + j.val, by omega⟩ : Fin 2560) : S512x2560.Idx) := by
    funext a
    refine Fin.ext ?_
    match a with
    | ⟨0, _⟩ => show 0 + 1 * r.val = r.val; omega
    | ⟨1, _⟩ => show o + 1 * j.val = o + j.val; omega
  rw [e, hp]
  refine Finset.sum_congr rfl fun k _ => ?_
  rw [pay2_at, ldw w o inw k j (wide ⟨o + j.val, by omega⟩) rfl]
  rfl

/-- The block written at a grid point. -/
theorem out_eq (i : grid0.Coords) (x0 : Vec Ideal S512x1024 .f32) (x1 : Vec Ideal S1x1024 .f32) (x2 : Vec Ideal S1024x3584 .bf16) (x3 : Vec Ideal S5x128 .f32)
    (x4 x5 : Vec Ideal S512x128 .f32) (x6 : Vec Ideal S128x128 .bf16) : out0_7 i x0 x1 x2 x3 x4 x5 x6 = G x0 x1 x2 := by
  have l0 : View.ld x0 r0_0 = x0 := View.ld_unit_zero (by funext a; fin_cases a <;> rfl) _ x0
  have l1 : View.ld x1 r0_1 = x1 := View.ld_unit_zero (by funext a; fin_cases a <;> rfl) _ x1
  funext y
  unfold out0_7 k0_pay58
  rw [l0, l1]
  refine View.canon_apply_of_pieces _ _ (fun p hp x => ?_) y (cover0_7 _ _ _ _ _ y)
  simp only [List.mem_cons, List.not_mem_nil, or_false] at hp
  rcases hp with rfl | rfl | rfl | rfl | rfl
  · exact piece x0 x1 x2 2048 inb_S512x2560_S512x512_0_2048 inb_S1024x3584_S1024x512_0_2048 _ (pay7_at _ _) x
  · exact piece x0 x1 x2 1536 inb_S512x2560_S512x512_0_1536 inb_S1024x3584_S1024x512_0_1536 _ (pay6_at _ _ _) x
  · exact piece x0 x1 x2 1024 inb_S512x2560_S512x512_0_1024 inb_S1024x3584_S1024x512_0_1024 _ (pay5_at _ _ _) x
  · exact piece x0 x1 x2 512 inb_S512x2560_S512x512_0_512 inb_S1024x3584_S1024x512_0_512 _ (pay4_at _ _ _) x
  · exact piece x0 x1 x2 0 inb_S512x2560_S512x512_0_0 inb_S1024x3584_S1024x512_0_0 _ (pay3_at _ _ _) x

theorem zero_at (i : S1024x116.Idx) : broadcastInDim S1024x116 ![] bcast_S_S1024x116 (constant (F := Ideal) S_ .f32 0x00000000#32) i = (0 : EReal) := by
  pointwise

theorem w_0 (w : FVec Ideal S1024x3352 .f32) (k : Fin 1024) (j : Fin 3584) (q : Fin 3352) (i : Fin 2048) (hj : 0 + i.val = j.val) (hq : 0 + i.val = q.val) :
    wcat w (ix2 k j) = w (ix2 k q) := by
  refine (concatenate_apply_piece (t := S1024x3584) 1 _ _ (ix2 k j) 0 (by show 0 < 12; omega) S1024x2048 (extractStridedSlice S1024x2048 ![0, 0] w slices_S1024x3352_S1024x2048_0_0) rfl rfl 0 rfl (ix2 k i) (fun a ha => ?_) hj).trans ?_
  · match a, ha with
    | ⟨0, _⟩, _ => rfl
    | ⟨1, _⟩, ha => exact absurd rfl ha
  · refine extractStridedSlice_apply ![0, 0] w _ (ix2 k i) (ix2 k q) fun a => ?_
    match a with
    | ⟨0, _⟩ => show k.val = 0 + k.val; omega
    | ⟨1, _⟩ => exact hq.symm

theorem w_1 (w : FVec Ideal S1024x3352 .f32) (k : Fin 1024) (j : Fin 3584) (q : Fin 3352) (i : Fin 128) (hj : 2048 + i.val = j.val) (hq : 2560 + i.val = q.val) :
    wcat w (ix2 k j) = w (ix2 k q) := by
  refine (concatenate_apply_piece (t := S1024x3584) 1 _ _ (ix2 k j) 1 (by show 1 < 12; omega) S1024x128 (extractStridedSlice S1024x128 ![0, 2560] w slices_S1024x3352_S1024x128_0_2560) rfl rfl 2048 rfl (ix2 k i) (fun a ha => ?_) hj).trans ?_
  · match a, ha with
    | ⟨0, _⟩, _ => rfl
    | ⟨1, _⟩, ha => exact absurd rfl ha
  · refine extractStridedSlice_apply ![0, 2560] w _ (ix2 k i) (ix2 k q) fun a => ?_
    match a with
    | ⟨0, _⟩ => show k.val = 0 + k.val; omega
    | ⟨1, _⟩ => exact hq.symm

theorem w_2 (w : FVec Ideal S1024x3352 .f32) (k : Fin 1024) (j : Fin 3584) (q : Fin 3352) (i : Fin 128) (hj : 2176 + i.val = j.val) (hq : 2688 + i.val = q.val) :
    wcat w (ix2 k j) = w (ix2 k q) := by
  refine (concatenate_apply_piece (t := S1024x3584) 1 _ _ (ix2 k j) 2 (by show 2 < 12; omega) S1024x128 (extractStridedSlice S1024x128 ![0, 2688] w slices_S1024x3352_S1024x128_0_2688) rfl rfl 2176 rfl (ix2 k i) (fun a ha => ?_) hj).trans ?_
  · match a, ha with
    | ⟨0, _⟩, _ => rfl
    | ⟨1, _⟩, ha => exact absurd rfl ha
  · refine extractStridedSlice_apply ![0, 2688] w _ (ix2 k i) (ix2 k q) fun a => ?_
    match a with
    | ⟨0, _⟩ => show k.val = 0 + k.val; omega
    | ⟨1, _⟩ => exact hq.symm

theorem w_3 (w : FVec Ideal S1024x3352 .f32) (k : Fin 1024) (j : Fin 3584) (q : Fin 3352) (i : Fin 12) (hj : 2304 + i.val = j.val) (hq : 3328 + i.val = q.val) :
    wcat w (ix2 k j) = w (ix2 k q) := by
  refine (concatenate_apply_piece (t := S1024x3584) 1 _ _ (ix2 k j) 3 (by show 3 < 12; omega) S1024x12 (extractStridedSlice S1024x12 ![0, 3328] w slices_S1024x3352_S1024x12_0_3328) rfl rfl 2304 rfl (ix2 k i) (fun a ha => ?_) hj).trans ?_
  · match a, ha with
    | ⟨0, _⟩, _ => rfl
    | ⟨1, _⟩, ha => exact absurd rfl ha
  · refine extractStridedSlice_apply ![0, 3328] w _ (ix2 k i) (ix2 k q) fun a => ?_
    match a with
    | ⟨0, _⟩ => show k.val = 0 + k.val; omega
    | ⟨1, _⟩ => exact hq.symm

theorem w_5 (w : FVec Ideal S1024x3352 .f32) (k : Fin 1024) (j : Fin 3584) (q : Fin 3352) (i : Fin 12) (hj : 2432 + i.val = j.val) (hq : 3340 + i.val = q.val) :
    wcat w (ix2 k j) = w (ix2 k q) := by
  refine (concatenate_apply_piece (t := S1024x3584) 1 _ _ (ix2 k j) 5 (by show 5 < 12; omega) S1024x12 (extractStridedSlice S1024x12 ![0, 3340] w slices_S1024x3352_S1024x12_0_3340) rfl rfl 2432 rfl (ix2 k i) (fun a ha => ?_) hj).trans ?_
  · match a, ha with
    | ⟨0, _⟩, _ => rfl
    | ⟨1, _⟩, ha => exact absurd rfl ha
  · refine extractStridedSlice_apply ![0, 3340] w _ (ix2 k i) (ix2 k q) fun a => ?_
    match a with
    | ⟨0, _⟩ => show k.val = 0 + k.val; omega
    | ⟨1, _⟩ => exact hq.symm

theorem w_4 (w : FVec Ideal S1024x3352 .f32) (k : Fin 1024) (j : Fin 3584) (i : Fin 116) (hj : 2316 + i.val = j.val) : wcat w (ix2 k j) = (0 : EReal) := by
  refine (concatenate_apply_piece (t := S1024x3584) 1 _ _ (ix2 k j) 4 (by show 4 < 12; omega) S1024x116 (broadcastInDim S1024x116 ![] bcast_S_S1024x116 (constant (F := Ideal) S_ .f32 0x00000000#32)) rfl rfl 2316 rfl (ix2 k i) (fun a ha => ?_) hj).trans (zero_at (ix2 k i))
  match a, ha with
  | ⟨0, _⟩, _ => rfl
  | ⟨1, _⟩, ha => exact absurd rfl ha

theorem w_6 (w : FVec Ideal S1024x3352 .f32) (k : Fin 1024) (j : Fin 3584) (i : Fin 116) (hj : 2444 + i.val = j.val) : wcat w (ix2 k j) = (0 : EReal) := by
  refine (concatenate_apply_piece (t := S1024x3584) 1 _ _ (ix2 k j) 6 (by show 6 < 12; omega) S1024x116 (broadcastInDim S1024x116 ![] bcast_S_S1024x116 (constant (F := Ideal) S_ .f32 0x00000000#32)) rfl rfl 2444 rfl (ix2 k i) (fun a ha => ?_) hj).trans (zero_at (ix2 k i))
  match a, ha with
  | ⟨0, _⟩, _ => rfl
  | ⟨1, _⟩, ha => exact absurd rfl ha

/-! The reference's columns. -/

theorem ref_row (x : FVec Ideal S65536x1024 .f32) (g : FVec Ideal S1024 .f32) (r : Fin 65536) (k : Fin 1024) :
    Reference4Ideal.Read.val_main_v12 (F := Ideal) x g (ix2 r k) = nrm (fun k => x (ix2 r k)) (fun k => g (ix1 k)) k := by
  have e11 : Reference4Ideal.Read.val_main_v11 (F := Ideal) g (ix2 r k) = g (ix1 k) := by
    rw [Reference4Ideal.Read.val_main_v11_apply, Reference4Ideal.Read.val_main_v10_apply]
    refine congrArg g (funext fun a => ?_)
    fin_cases a; rfl
  have e1 : ∀ i : Reference4Ideal.S65536.Idx, Reference4Ideal.Read.val_main_v1 (F := Ideal) x i = ∑ k : Fin 1024, x (ix2 (i 0) k) * x (ix2 (i 0) k) := by
    intro i
    rw [Reference4Ideal.Read.val_main_v1_apply, Reference4Ideal.Read.val_main_cst_apply]
    refine (congrArg (· + _) (Ideal.ofBits_zero_f32)).trans ((zero_add _).trans (Finset.sum_congr rfl fun k _ => ?_))
    have e : Reference4Ideal.Read.idx_main_v1 i k = ix2 (i 0) k := by funext a; fin_cases a <;> rfl
    rw [Reference4Ideal.Read.val_main_v0_apply, e]
    rfl
  rw [Reference4Ideal.Read.val_main_v12_apply, Reference4Ideal.Read.val_main_v9_apply, Reference4Ideal.Read.val_main_v8_apply,
    Reference4Ideal.Read.val_main_v7_apply, Reference4Ideal.Read.val_main_v6_apply, Reference4Ideal.Read.val_main_v4_apply,
    Reference4Ideal.Read.val_main_v2_apply, e1, Reference4Ideal.Read.val_main_v3_apply, Reference4Ideal.Read.val_main_v5_apply, e11]
  rfl

/-- The product with the weight, at one entry. -/
theorem ref_prod (x : FVec Ideal S65536x1024 .f32) (g : FVec Ideal S1024 .f32) (w : FVec Ideal S1024x3352 .f32) (r : Fin 65536) (q : Fin 3352) :
    Reference4Ideal.Read.val_main_v13 (F := Ideal) x g w (ix2 r q) = ∑ k : Fin 1024, nrm (fun k => x (ix2 r k)) (fun k => g (ix1 k)) k * w (ix2 k q) := by
  rw [Reference4Ideal.Read.val_main_v13_apply]
  refine Finset.sum_congr rfl fun k _ => ?_
  have el : Reference4Ideal.Read.lidx_main_v13 (ix2 r q) k = ix2 r k := by funext a; fin_cases a <;> rfl
  have er : Reference4Ideal.Read.ridx_main_v13 (ix2 r q) k = ix2 k q := by funext a; fin_cases a <;> rfl
  rw [el, er, ref_row]

theorem r_0 (x : FVec Ideal S65536x1024 .f32) (g : FVec Ideal S1024 .f32) (w : FVec Ideal S1024x3352 .f32) (r : Fin 65536) (j : Fin 2560) (q : Fin 3352) (i : Fin 2048)
    (hj : 0 + i.val = j.val) (hq : 0 + i.val = q.val) :
    Reference4Ideal.Read.val_main_v23 (F := Ideal) x g w (ix2 r j) = Reference4Ideal.Read.val_main_v13 (F := Ideal) x g w (ix2 r q) := by
  unfold Reference4Ideal.Read.val_main_v23
  refine (concatenate_apply_piece (t := Reference4Ideal.S65536x2560) 1 _ _ (ix2 r j) 0 (by show 0 < 7; omega) Reference4Ideal.S65536x2048 (Reference4Ideal.Read.val_main_v14 (F := Ideal) x g w) rfl rfl 0 rfl (ix2 r i) (fun a ha => ?_) hj).trans ?_
  · match a, ha with
    | ⟨0, _⟩, _ => rfl
    | ⟨1, _⟩, ha => exact absurd rfl ha
  · rw [Reference4Ideal.Read.val_main_v14_apply]
    refine congrArg (Reference4Ideal.Read.val_main_v13 (F := Ideal) x g w) (funext fun a => Fin.ext ?_)
    match a with
    | ⟨0, _⟩ => rfl
    | ⟨1, _⟩ => show i.val = q.val; omega

theorem r_1 (x : FVec Ideal S65536x1024 .f32) (g : FVec Ideal S1024 .f32) (w : FVec Ideal S1024x3352 .f32) (r : Fin 65536) (j : Fin 2560) (q : Fin 3352) (i : Fin 128)
    (hj : 2048 + i.val = j.val) (hq : 2560 + i.val = q.val) :
    Reference4Ideal.Read.val_main_v23 (F := Ideal) x g w (ix2 r j) = Reference4Ideal.Read.val_main_v13 (F := Ideal) x g w (ix2 r q) := by
  unfold Reference4Ideal.Read.val_main_v23
  refine (concatenate_apply_piece (t := Reference4Ideal.S65536x2560) 1 _ _ (ix2 r j) 1 (by show 1 < 7; omega) Reference4Ideal.S65536x128 (Reference4Ideal.Read.val_main_v16 (F := Ideal) x g w) rfl rfl 2048 rfl (ix2 r i) (fun a ha => ?_) hj).trans ?_
  · match a, ha with
    | ⟨0, _⟩, _ => rfl
    | ⟨1, _⟩, ha => exact absurd rfl ha
  · rw [Reference4Ideal.Read.val_main_v16_apply]
    refine congrArg (Reference4Ideal.Read.val_main_v13 (F := Ideal) x g w) (funext fun a => Fin.ext ?_)
    match a with
    | ⟨0, _⟩ => rfl
    | ⟨1, _⟩ => show 2560 + i.val = q.val; omega

theorem r_2 (x : FVec Ideal S65536x1024 .f32) (g : FVec Ideal S1024 .f32) (w : FVec Ideal S1024x3352 .f32) (r : Fin 65536) (j : Fin 2560) (q : Fin 3352) (i : Fin 128)
    (hj : 2176 + i.val = j.val) (hq : 2688 + i.val = q.val) :
    Reference4Ideal.Read.val_main_v23 (F := Ideal) x g w (ix2 r j) = Reference4Ideal.Read.val_main_v13 (F := Ideal) x g w (ix2 r q) := by
  unfold Reference4Ideal.Read.val_main_v23
  refine (concatenate_apply_piece (t := Reference4Ideal.S65536x2560) 1 _ _ (ix2 r j) 2 (by show 2 < 7; omega) Reference4Ideal.S65536x128 (Reference4Ideal.Read.val_main_v17 (F := Ideal) x g w) rfl rfl 2176 rfl (ix2 r i) (fun a ha => ?_) hj).trans ?_
  · match a, ha with
    | ⟨0, _⟩, _ => rfl
    | ⟨1, _⟩, ha => exact absurd rfl ha
  · rw [Reference4Ideal.Read.val_main_v17_apply]
    refine congrArg (Reference4Ideal.Read.val_main_v13 (F := Ideal) x g w) (funext fun a => Fin.ext ?_)
    match a with
    | ⟨0, _⟩ => rfl
    | ⟨1, _⟩ => show 2688 + i.val = q.val; omega

theorem r_3 (x : FVec Ideal S65536x1024 .f32) (g : FVec Ideal S1024 .f32) (w : FVec Ideal S1024x3352 .f32) (r : Fin 65536) (j : Fin 2560) (q : Fin 3352) (i : Fin 12)
    (hj : 2304 + i.val = j.val) (hq : 3328 + i.val = q.val) :
    Reference4Ideal.Read.val_main_v23 (F := Ideal) x g w (ix2 r j) = Reference4Ideal.Read.val_main_v13 (F := Ideal) x g w (ix2 r q) := by
  unfold Reference4Ideal.Read.val_main_v23
  refine (concatenate_apply_piece (t := Reference4Ideal.S65536x2560) 1 _ _ (ix2 r j) 3 (by show 3 < 7; omega) Reference4Ideal.S65536x12 (Reference4Ideal.Read.val_main_v21 (F := Ideal) x g w) rfl rfl 2304 rfl (ix2 r i) (fun a ha => ?_) hj).trans ?_
  · match a, ha with
    | ⟨0, _⟩, _ => rfl
    | ⟨1, _⟩, ha => exact absurd rfl ha
  · rw [Reference4Ideal.Read.val_main_v21_apply, Reference4Ideal.Read.val_main_v19_apply]
    refine congrArg (Reference4Ideal.Read.val_main_v13 (F := Ideal) x g w) (funext fun a => Fin.ext ?_)
    match a with
    | ⟨0, _⟩ => rfl
    | ⟨1, _⟩ => show 3328 + i.val = q.val; omega

theorem r_5 (x : FVec Ideal S65536x1024 .f32) (g : FVec Ideal S1024 .f32) (w : FVec Ideal S1024x3352 .f32) (r : Fin 65536) (j : Fin 2560) (q : Fin 3352) (i : Fin 12)
    (hj : 2432 + i.val = j.val) (hq : 3340 + i.val = q.val) :
    Reference4Ideal.Read.val_main_v23 (F := Ideal) x g w (ix2 r j) = Reference4Ideal.Read.val_main_v13 (F := Ideal) x g w (ix2 r q) := by
  unfold Reference4Ideal.Read.val_main_v23
  refine (concatenate_apply_piece (t := Reference4Ideal.S65536x2560) 1 _ _ (ix2 r j) 5 (by show 5 < 7; omega) Reference4Ideal.S65536x12 (Reference4Ideal.Read.val_main_v22 (F := Ideal) x g w) rfl rfl 2432 rfl (ix2 r i) (fun a ha => ?_) hj).trans ?_
  · match a, ha with
    | ⟨0, _⟩, _ => rfl
    | ⟨1, _⟩, ha => exact absurd rfl ha
  · rw [Reference4Ideal.Read.val_main_v22_apply, Reference4Ideal.Read.val_main_v19_apply]
    refine congrArg (Reference4Ideal.Read.val_main_v13 (F := Ideal) x g w) (funext fun a => Fin.ext ?_)
    match a with
    | ⟨0, _⟩ => rfl
    | ⟨1, _⟩ => show 3328 + (12 + i.val) = q.val; omega

theorem r_4 (x : FVec Ideal S65536x1024 .f32) (g : FVec Ideal S1024 .f32) (w : FVec Ideal S1024x3352 .f32) (r : Fin 65536) (j : Fin 2560) (i : Fin 116) (hj : 2316 + i.val = j.val) :
    Reference4Ideal.Read.val_main_v23 (F := Ideal) x g w (ix2 r j) = (0 : EReal) := by
  unfold Reference4Ideal.Read.val_main_v23
  refine (concatenate_apply_piece (t := Reference4Ideal.S65536x2560) 1 _ _ (ix2 r j) 4 (by show 4 < 7; omega) Reference4Ideal.S65536x116 (Reference4Ideal.Read.val_main_v20 (F := Ideal)) rfl rfl 2316 rfl (ix2 r i) (fun a ha => ?_) hj).trans ?_
  · match a, ha with
    | ⟨0, _⟩, _ => rfl
    | ⟨1, _⟩, ha => exact absurd rfl ha
  · rw [Reference4Ideal.Read.val_main_v20_apply, Reference4Ideal.Read.val_main_cst_2_apply]
    exact Ideal.ofBits_zero_f32

theorem r_6 (x : FVec Ideal S65536x1024 .f32) (g : FVec Ideal S1024 .f32) (w : FVec Ideal S1024x3352 .f32) (r : Fin 65536) (j : Fin 2560) (i : Fin 116) (hj : 2444 + i.val = j.val) :
    Reference4Ideal.Read.val_main_v23 (F := Ideal) x g w (ix2 r j) = (0 : EReal) := by
  unfold Reference4Ideal.Read.val_main_v23
  refine (concatenate_apply_piece (t := Reference4Ideal.S65536x2560) 1 _ _ (ix2 r j) 6 (by show 6 < 7; omega) Reference4Ideal.S65536x116 (Reference4Ideal.Read.val_main_v20 (F := Ideal)) rfl rfl 2444 rfl (ix2 r i) (fun a ha => ?_) hj).trans ?_
  · match a, ha with
    | ⟨0, _⟩, _ => rfl
    | ⟨1, _⟩, ha => exact absurd rfl ha
  · rw [Reference4Ideal.Read.val_main_v20_apply, Reference4Ideal.Read.val_main_cst_2_apply]
    exact Ideal.ofBits_zero_f32

/-- Every column of the result, as the product with the laid out weight. -/
theorem ref_at (x : FVec Ideal S65536x1024 .f32) (g : FVec Ideal S1024 .f32) (w : FVec Ideal S1024x3352 .f32) (r : Fin 65536) (j : Fin 2560) :
    Reference4Ideal.Read.val_main_v23 (F := Ideal) x g w (ix2 r j) = ∑ k : Fin 1024, nrm (fun k => x (ix2 r k)) (fun k => g (ix1 k)) k * wcat w (ix2 k (wide j)) := by
  have hj := j.isLt
  by_cases h0 : j.val < 2048
  · rw [r_0 x g w r j ⟨0 + (j.val - 0), by omega⟩ ⟨j.val - 0, by omega⟩ (by show 0 + (j.val - 0) = j.val; omega) rfl, ref_prod]
    exact Finset.sum_congr rfl fun k _ => congrArg (_ * ·) (w_0 w k (wide j) ⟨0 + (j.val - 0), by omega⟩ ⟨j.val - 0, by omega⟩ (by show 0 + (j.val - 0) = j.val; omega) rfl).symm
  by_cases h1 : j.val < 2176
  · rw [r_1 x g w r j ⟨2560 + (j.val - 2048), by omega⟩ ⟨j.val - 2048, by omega⟩ (by show 2048 + (j.val - 2048) = j.val; omega) rfl, ref_prod]
    exact Finset.sum_congr rfl fun k _ => congrArg (_ * ·) (w_1 w k (wide j) ⟨2560 + (j.val - 2048), by omega⟩ ⟨j.val - 2048, by omega⟩ (by show 2048 + (j.val - 2048) = j.val; omega) rfl).symm
  by_cases h2 : j.val < 2304
  · rw [r_2 x g w r j ⟨2688 + (j.val - 2176), by omega⟩ ⟨j.val - 2176, by omega⟩ (by show 2176 + (j.val - 2176) = j.val; omega) rfl, ref_prod]
    exact Finset.sum_congr rfl fun k _ => congrArg (_ * ·) (w_2 w k (wide j) ⟨2688 + (j.val - 2176), by omega⟩ ⟨j.val - 2176, by omega⟩ (by show 2176 + (j.val - 2176) = j.val; omega) rfl).symm
  by_cases h3 : j.val < 2316
  · rw [r_3 x g w r j ⟨3328 + (j.val - 2304), by omega⟩ ⟨j.val - 2304, by omega⟩ (by show 2304 + (j.val - 2304) = j.val; omega) rfl, ref_prod]
    exact Finset.sum_congr rfl fun k _ => congrArg (_ * ·) (w_3 w k (wide j) ⟨3328 + (j.val - 2304), by omega⟩ ⟨j.val - 2304, by omega⟩ (by show 2304 + (j.val - 2304) = j.val; omega) rfl).symm
  by_cases h4 : j.val < 2432
  · rw [r_4 x g w r j ⟨j.val - 2316, by omega⟩ (by show 2316 + (j.val - 2316) = j.val; omega)]
    refine (Finset.sum_eq_zero fun k _ => ?_).symm
    rw [w_4 w k (wide j) ⟨j.val - 2316, by omega⟩ (by show 2316 + (j.val - 2316) = j.val; omega)]
    exact mul_zero _
  by_cases h5 : j.val < 2444
  · rw [r_5 x g w r j ⟨3340 + (j.val - 2432), by omega⟩ ⟨j.val - 2432, by omega⟩ (by show 2432 + (j.val - 2432) = j.val; omega) rfl, ref_prod]
    exact Finset.sum_congr rfl fun k _ => congrArg (_ * ·) (w_5 w k (wide j) ⟨3340 + (j.val - 2432), by omega⟩ ⟨j.val - 2432, by omega⟩ (by show 2432 + (j.val - 2432) = j.val; omega) rfl).symm
  · rw [r_6 x g w r j ⟨j.val - 2444, by omega⟩ (by show 2444 + (j.val - 2444) = j.val; omega)]
    refine (Finset.sum_eq_zero fun k _ => ?_).symm
    rw [w_6 w k (wide j) ⟨j.val - 2444, by omega⟩ (by show 2444 + (j.val - 2444) = j.val; omega)]
    exact mul_zero _

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_7.index t = ![t.val, 0] :=
  (by decide +kernel : ∀ t : Fin grid0.N, _)

/-- Row `r` of the block at point `t`. -/
def row (t : Fin cfg0.N) (r : Fin 512) : Fin 65536 := ⟨t.val * 512 + r.val, by
  have : t.val < 128 := Nat.lt_of_lt_of_eq t.isLt (by decide +kernel : grid0.N = 128)
  have := r.isLt; omega⟩

theorem emb0 (t : Fin cfg0.N) (r : Fin 512) (k : Fin 1024) : ((win0_0.blk t).view.emb (ix2 r k) : S65536x1024.Idx) = ix2 (row t r) k := by
  blk_ext [idx t, row]
theorem emb1 (t : Fin cfg0.N) (k : Fin 1024) : ((win0_1.blk t).view.emb (ix2 0 k) : S1x1024.Idx) = ix2 0 k := by
  blk_ext [idx t]
theorem emb2 (t : Fin cfg0.N) (k : Fin 1024) (j : Fin 3584) : ((win0_2.blk t).view.emb (ix2 k j) : S1024x3584.Idx) = ix2 k j := by
  blk_ext [idx t]
theorem emb7 (t : Fin cfg0.N) (r : Fin 512) (j : Fin 2560) : ((win0_7.blk t).view.emb (ix2 r j) : S65536x2560.Idx) = ix2 (row t r) j := by
  blk_ext [idx t, row]

variable (c : Dev nD)

/-- The three arguments read. -/
abbrev ax : FVec Ideal S65536x1024 .f32 := m ((c : Thread nD τ).loc main_arg0)
abbrev ag : FVec Ideal S1024 .f32 := m ((c : Thread nD τ).loc main_arg1)
abbrev aw : FVec Ideal S1024x3352 .f32 := m ((c : Thread nD τ).loc main_arg2)

theorem host0 : (V m c main_arg0 : FVec Ideal S65536x1024 .f32) = ax m c := by
  entry_read
  rfl

theorem cast1 (g : FVec Ideal S1024 .f32) (k : Fin 1024) : (shapeCast S1x1024 g shapeCasts_S1024_S1x1024) (ix2 0 k) = g (ix1 k) := by
  pointwise

theorem host1 (k : Fin 1024) : (V m c main_v68 : FVec Ideal S1x1024 .f32) (ix2 0 k) = ag m c (ix1 k) := by
  have e : (V m c main_v68 : FVec Ideal S1x1024 .f32) = shapeCast S1x1024 (ag m c) shapeCasts_S1024_S1x1024 := by
    entry_read
    rfl
  rw [e, cast1]

theorem ib0 (t : Fin cfg0.N) (r : Fin 512) (k : Fin 1024) : (iblk m c 0 t : FVec Ideal S512x1024 .f32) (ix2 r k) = ax m c (ix2 (row t r) k) := by
  show (V m c main_arg0 : FVec Ideal S65536x1024 .f32) ((win0_0.blk t).view.emb (ix2 r k)) = _
  rw [emb0, host0]
theorem ib1 (t : Fin cfg0.N) (k : Fin 1024) : (iblk m c 1 t : FVec Ideal S1x1024 .f32) (ix2 0 k) = ag m c (ix1 k) := by
  show (V m c main_v68 : FVec Ideal S1x1024 .f32) ((win0_1.blk t).view.emb (ix2 0 k)) = _
  rw [emb1, host1]
theorem ib2 (t : Fin cfg0.N) (k : Fin 1024) (j : Fin 3584) : (iblk m c 2 t : FVec Ideal S1024x3584 .bf16) (ix2 k j) = wcat (aw m c) (ix2 k j) := by
  show (V m c main_v12 : FVec Ideal S1024x3584 .bf16) ((win0_2.blk t).view.emb (ix2 k j)) = _
  rw [emb2, host2]

theorem G_at (t : Fin cfg0.N) (r : Fin 512) (j : Fin 2560) :
    G (iblk m c 0 t) (iblk m c 1 t) (iblk m c 2 t) (ix2 r j) = Reference4Ideal.Read.val_main_v23 (F := Ideal) (ax m c) (ag m c) (aw m c) ((win0_7.blk t).view.emb (ix2 r j)) := by
  rw [emb7, ref_at]
  refine Finset.sum_congr rfl fun k _ => congrArg₂ (· * ·) ?_ (ib2 m c t k (wide j))
  exact congrArg₂ (fun a b => nrm a b k) (funext fun k => ib0 m c t r k) (funext fun k => ib1 m c t k)

theorem final : (dats m 0 c).arrAt 7 cfg0.N = Reference4Ideal.Read.val_main_v23 (F := Ideal) (ax m c) (ag m c) (aw m c) := by
  refine (dats m 0 c).arrAt_eq_of_covers 7 _ (by decide +kernel) fun t _ y => ?_
  blk_simp
  rw [after0_7, out_eq]
  obtain ⟨r, j, rfl⟩ : ∃ (r : Fin 512) (j : Fin 2560), y = ix2 r j := ⟨y 0, y 1, by funext a; fin_cases a <;> rfl⟩
  exact G_at m c t r j

end Cert.InProj

end
-- ==== Proof.SwaRef.lean ====
module

public import proofs.«01_k».proof.Proof.Gen.ReferenceIdeal.Read
public import Idealize.ShloMosaic.Lib.Pointwise

@[expose] public section

set_option maxRecDepth 16384

noncomputable section

/-! The reference's result at one index: a masked softmax with a sink over all 4096 keys. -/

namespace Cert.Swa

open Idealize.ShloMosaic Idealize.ShloMosaic.TcCoe Idealize.SL.Sem
open Cert.ReferenceIdeal Cert.ReferenceIdeal.Gen Cert.ReferenceIdeal.Read

/-- Query head `h` of key group `g`. -/
def hd (g : Fin 2) (h : Fin 8) : Fin 16 := ⟨g.val * 8 + h.val, by omega⟩

/-- The column of the result that holds entry `d` of that head. -/
def col (g : Fin 2) (h : Fin 8) (d : Fin 64) : Fin 1024 := ⟨g.val * 512 + h.val * 64 + d.val, by omega⟩

variable (q : S16x4096x16x64.Idx → EReal) (k v : S16x4096x2x64.Idx → EReal) (sk : S16.Idx → EReal)

/-- The scaled score of key `j` for query `t`, minus infinity outside the window of 128. -/
def sc (b : Fin 16) (t : Fin 4096) (g : Fin 2) (h : Fin 8) (j : Fin 4096) : EReal :=
  if j.val ≤ t.val ∧ t.val < j.val + 128 then
    (∑ e : Fin 64, k (ix4 b j g e) * q (ix4 b t (hd g h) e)) * ((1 / 8 : ℝ) : EReal) else ⊥

/-- The largest score or the sink. -/
def mx (b : Fin 16) (t : Fin 4096) (g : Fin 2) (h : Fin 8) : EReal :=
  max (Finset.univ.fold max ⊥ fun j : Fin 4096 => sc q k b t g h j) (sk (ix1 (hd g h)))

/-- The attention's result at one entry. -/
def att (b : Fin 16) (t : Fin 4096) (g : Fin 2) (h : Fin 8) (d : Fin 64) : EReal :=
  Ideal.div (∑ j : Fin 4096, v (ix4 b j g d) * Ideal.exp (sc q k b t g h j - mx q k sk b t g h))
    ((∑ j : Fin 4096, Ideal.exp (sc q k b t g h j - mx q k sk b t g h)) + Ideal.exp (sk (ix1 (hd g h)) - mx q k sk b t g h))

theorem eighth : Ideal.ofBits .f32 (1040187392#32) = ((1 / 8 : ℝ) : EReal) := by
  rw [show (1 / 8 : ℝ) = 8388608 * 2 ^ (-26 : ℤ) by norm_num]
  simp [Ideal.ofBits, Ideal.ieee]
  try norm_num

theorem ninf : Ideal.ofBits .f32 (4286578688#32) = (⊥ : EReal) := by
  simp [Ideal.ofBits, Ideal.ieee]

theorem mask_word (t j : Fin 4096) :
    (IntOp.andi (IntOp.cmpi .sle (BitVec.ofNat 32 j.val) (BitVec.ofNat 32 t.val)) (IntOp.cmpi .sgt (BitVec.ofNat 32 j.val) (IntOp.subi (BitVec.ofNat 32 t.val) 128#32)) = 1#1)
      ↔ (j.val ≤ t.val ∧ t.val < j.val + 128) := by
  have hj : (BitVec.ofNat 32 j.val).toInt = j.val := by rw [BitVec.toInt_ofNat']; exact Int.bmod_eq_of_le (by omega) (by omega)
  have ht : (BitVec.ofNat 32 t.val).toInt = t.val := by rw [BitVec.toInt_ofNat']; exact Int.bmod_eq_of_le (by omega) (by omega)
  have hs : (BitVec.ofNat 32 t.val - 128#32).toInt = (t.val : Int) - 128 := by
    rw [BitVec.toInt_sub, ht]; exact Int.bmod_eq_of_le (by simp; omega) (by simp; omega)
  have e : IntOp.andi (IntOp.cmpi .sle (BitVec.ofNat 32 j.val) (BitVec.ofNat 32 t.val)) (IntOp.cmpi .sgt (BitVec.ofNat 32 j.val) (IntOp.subi (BitVec.ofNat 32 t.val) 128#32))
      = BitVec.ofBool (decide (j.val ≤ t.val)) &&& BitVec.ofBool (decide (t.val < j.val + 128)) := by
    show BitVec.ofBool (BitVec.sle _ _) &&& BitVec.ofBool (BitVec.slt (BitVec.ofNat 32 t.val - 128#32) _) = _
    rw [BitVec.sle_eq_decide, BitVec.slt_eq_decide, hj, ht, hs]
    congr 3 <;> simp <;> omega
  rw [e]
  by_cases h1 : j.val ≤ t.val <;> by_cases h2 : t.val < j.val + 128 <;> simp [h1, h2]

theorem v15_at (t j : Fin 4096) :
    val_main_v15 (F := Ideal) (ix2 t j) = IntOp.andi (IntOp.cmpi .sle (BitVec.ofNat 32 j.val) (BitVec.ofNat 32 t.val)) (IntOp.cmpi .sgt (BitVec.ofNat 32 j.val) (IntOp.subi (BitVec.ofNat 32 t.val) 128#32)) := by
  rfl

theorem v0_at (b : Fin 16) (t : Fin 4096) (g : Fin 2) (h : Fin 8) (e : Fin 64) :
    val_main_v0 (F := Ideal) q (ix5 b t g h e) = q (ix4 b t (hd g h) e) := by
  rw [val_main_v0_apply]
  refine congrArg q (funext fun a => Fin.ext ?_)
  match a with
  | ⟨0, _⟩ => show ((((b.val * 4096 + t.val) * 2 + g.val) * 8 + h.val) * 64 + e.val) / 4194304 = b.val; omega
  | ⟨1, _⟩ => show ((((b.val * 4096 + t.val) * 2 + g.val) * 8 + h.val) * 64 + e.val) / 1024 % 4096 = t.val; omega
  | ⟨2, _⟩ => show ((((b.val * 4096 + t.val) * 2 + g.val) * 8 + h.val) * 64 + e.val) / 64 % 16 = g.val * 8 + h.val; omega
  | ⟨3, _⟩ => show ((((b.val * 4096 + t.val) * 2 + g.val) * 8 + h.val) * 64 + e.val) % 64 = e.val; omega

theorem v21_at (b : Fin 16) (t : Fin 4096) (g : Fin 2) (h : Fin 8) (j : Fin 4096) :
    val_main_v21 (F := Ideal) q k (ix5 b t g h j) = sc q k b t g h j := by
  have e16 : val_main_v16 (F := Ideal) q k (idx_main_v17 (ix5 b t g h j)) = ∑ e : Fin 64, k (ix4 b j g e) * q (ix4 b t (hd g h) e) := by
    rw [val_main_v16_apply]
    refine Finset.sum_congr rfl fun e _ => ?_
    rw [← v0_at q]
    refine congrArg₂ (· * ·) (congrArg k (funext fun a => ?_)) (congrArg (val_main_v0 (F := Ideal) q) (funext fun a => ?_))
    · match a with | ⟨0, _⟩ => rfl | ⟨1, _⟩ => rfl | ⟨2, _⟩ => rfl | ⟨3, _⟩ => rfl
    · match a with | ⟨0, _⟩ => rfl | ⟨1, _⟩ => rfl | ⟨2, _⟩ => rfl | ⟨3, _⟩ => rfl | ⟨4, _⟩ => rfl
  rw [val_main_v21_apply, val_main_v19_apply, val_main_v17_apply, e16]
  rw [show val_main_call0_v1 (F := Ideal) (ix5 b t g h j) = val_main_v15 (F := Ideal) (ix2 t j) by
      rw [val_main_call0_v1_apply, val_main_v20_apply]
      exact congrArg (val_main_v15 (F := Ideal)) (funext fun a => by match a with | ⟨0, _⟩ => rfl | ⟨1, _⟩ => rfl),
    show val_main_v18 (F := Ideal) (ix5 b t g h j) = ((1 / 8 : ℝ) : EReal) by rw [val_main_v18_apply]; exact eighth,
    show val_main_call0_v2 (F := Ideal) (ix5 b t g h j) = (⊥ : EReal) by rw [val_main_call0_v2_apply]; exact ninf, v15_at]
  unfold Scalar.select sc
  exact if_congr (mask_word t j) rfl rfl

theorem v1_at (g : Fin 2) (h : Fin 8) : val_main_v1 (F := Ideal) sk (ix2 g h) = sk (ix1 (hd g h)) := by
  rw [val_main_v1_apply]
  exact congrArg sk (funext fun a => by match a with | ⟨0, _⟩ => rfl)

theorem v25_at (b : Fin 16) (t : Fin 4096) (g : Fin 2) (h : Fin 8) :
    val_main_v25 (F := Ideal) q k sk (ix4 b t g h) = mx q k sk b t g h := by
  have e22 : val_main_v22 (F := Ideal) q k (ix4 b t g h) = Finset.univ.fold max ⊥ fun j : Fin 4096 => sc q k b t g h j := by
    simp only [← v21_at]
    unfold val_main_v22
    generalize val_main_v21 (F := Ideal) q k = y
    pointwise [val_main_cst_1]
    rw [ninf]
  have e24 : val_main_v24 (F := Ideal) sk (ix4 b t g h) = sk (ix1 (hd g h)) := by
    rw [val_main_v24_apply, val_main_v23_apply, ← v1_at sk]
    exact congrArg (val_main_v1 (F := Ideal) sk) (funext fun a => by match a with | ⟨0, _⟩ => rfl | ⟨1, _⟩ => rfl)
  rw [val_main_v25_apply, e22, e24]; rfl

theorem v29_at (b : Fin 16) (t : Fin 4096) (g : Fin 2) (h : Fin 8) (j : Fin 4096) :
    val_main_v29 (F := Ideal) q k sk (ix5 b t g h j) = Ideal.exp (sc q k b t g h j - mx q k sk b t g h) := by
  rw [val_main_v29_apply, val_main_v28_apply, val_main_v27_apply, val_main_v26_apply, v21_at, ← v25_at]
  refine congrArg Ideal.exp (congrArg (sc q k b t g h j - ·) (congrArg (val_main_v25 (F := Ideal) q k sk) (funext fun a => ?_)))
  match a with | ⟨0, _⟩ => rfl | ⟨1, _⟩ => rfl | ⟨2, _⟩ => rfl | ⟨3, _⟩ => rfl

theorem v35_at (b : Fin 16) (t : Fin 4096) (g : Fin 2) (h : Fin 8) :
    val_main_v35 (F := Ideal) q k sk (ix4 b t g h)
      = (∑ j : Fin 4096, Ideal.exp (sc q k b t g h j - mx q k sk b t g h)) + Ideal.exp (sk (ix1 (hd g h)) - mx q k sk b t g h) := by
  have e32 : val_main_v32 (F := Ideal) sk (ix4 b t g h) = sk (ix1 (hd g h)) := by
    rw [val_main_v32_apply, val_main_v31_apply, ← v1_at sk]
    exact congrArg (val_main_v1 (F := Ideal) sk) (funext fun a => by match a with | ⟨0, _⟩ => rfl | ⟨1, _⟩ => rfl)
  have e30 : val_main_v30 (F := Ideal) q k sk (ix4 b t g h) = ∑ j : Fin 4096, Ideal.exp (sc q k b t g h j - mx q k sk b t g h) := by
    rw [val_main_v30_apply]
    refine (congrArg (· + _) (Ideal.ofBits_zero .f32)).trans ((zero_add _).trans (Finset.sum_congr rfl fun j _ => ?_))
    rw [← v29_at]
    refine congrArg (val_main_v29 (F := Ideal) q k sk) (funext fun a => ?_)
    match a with | ⟨0, _⟩ => rfl | ⟨1, _⟩ => rfl | ⟨2, _⟩ => rfl | ⟨3, _⟩ => rfl | ⟨4, _⟩ => rfl
  rw [val_main_v35_apply, val_main_v34_apply, val_main_v33_apply, e30, e32, v25_at]; rfl

theorem ref_at (b : Fin 16) (t : Fin 4096) (g : Fin 2) (h : Fin 8) (d : Fin 64) :
    val_main_v42 (F := Ideal) q k v sk (ix3 b t (col g h d)) = att q k v sk b t g h d := by
  have e41 : idx_main_v41 (ix3 b t (col g h d)) = ix5 b t g h d := by
    refine funext fun a => Fin.ext ?_
    match a with
    | ⟨0, _⟩ => show ((b.val * 4096 + t.val) * 1024 + (g.val * 512 + h.val * 64 + d.val)) / 4194304 = b.val; omega
    | ⟨1, _⟩ => show ((b.val * 4096 + t.val) * 1024 + (g.val * 512 + h.val * 64 + d.val)) / 1024 % 4096 = t.val; omega
    | ⟨2, _⟩ => show ((b.val * 4096 + t.val) * 1024 + (g.val * 512 + h.val * 64 + d.val)) / 512 % 2 = g.val; omega
    | ⟨3, _⟩ => show ((b.val * 4096 + t.val) * 1024 + (g.val * 512 + h.val * 64 + d.val)) / 64 % 8 = h.val; omega
    | ⟨4, _⟩ => show ((b.val * 4096 + t.val) * 1024 + (g.val * 512 + h.val * 64 + d.val)) % 64 = d.val; omega
  have e37 : val_main_v37 (F := Ideal) q k v sk (ix5 b t g h d) = ∑ j : Fin 4096, v (ix4 b j g d) * Ideal.exp (sc q k b t g h j - mx q k sk b t g h) := by
    rw [val_main_v37_apply, val_main_v36_apply]
    refine Finset.sum_congr rfl fun j _ => ?_
    rw [← v29_at]
    refine congrArg₂ (· * ·) (congrArg v (funext fun a => ?_)) (congrArg (val_main_v29 (F := Ideal) q k sk) (funext fun a => ?_))
    · match a with | ⟨0, _⟩ => rfl | ⟨1, _⟩ => rfl | ⟨2, _⟩ => rfl | ⟨3, _⟩ => rfl
    · match a with | ⟨0, _⟩ => rfl | ⟨1, _⟩ => rfl | ⟨2, _⟩ => rfl | ⟨3, _⟩ => rfl | ⟨4, _⟩ => rfl
  have e39 : val_main_v39 (F := Ideal) q k sk (ix5 b t g h d) = val_main_v35 (F := Ideal) q k sk (ix4 b t g h) := by
    rw [val_main_v39_apply, val_main_v38_apply]
    refine congrArg (val_main_v35 (F := Ideal) q k sk) (funext fun a => ?_)
    match a with | ⟨0, _⟩ => rfl | ⟨1, _⟩ => rfl | ⟨2, _⟩ => rfl | ⟨3, _⟩ => rfl
  rw [val_main_v42_apply, val_main_v41_apply, e41, val_main_v40_apply, e37, e39, v35_at]; rfl

end Cert.Swa
-- ==== Proof.SwaBlk.lean ====
module

public import proofs.«01_k».proof.Proof.Gen.KernelIdeal.Skeleton
public import Idealize.ShloMosaic.Lib.Pointwise

@[expose] public section

set_option maxRecDepth 16384

noncomputable section

/-! The values one grid point of the attention computes, at one entry. -/

namespace Cert.Swa

open Idealize.ShloMosaic Idealize.ShloMosaic.TcCoe Idealize.SL.Sem
open Cert.KernelIdeal Cert.KernelIdeal.Gen

/-- Column of the scores: query `r` of head `h`. -/
def sq (h : Fin 8) (r : Fin 256) : Fin 2048 := ⟨h.val * 256 + r.val, by omega⟩

/-- Column of the block: entry `d` of head `h`. -/
def oc (h : Fin 8) (d : Fin 64) : Fin 512 := ⟨h.val * 64 + d.val, by omega⟩

theorem cat_cols {α : Type} (x : S384x256.Idx → α) (hc) (n : Fin 384) (h : Fin 8) (r : Fin 256) :
    concatenate S384x2048 1 [⟨S384x256, x⟩, ⟨S384x256, x⟩, ⟨S384x256, x⟩, ⟨S384x256, x⟩, ⟨S384x256, x⟩, ⟨S384x256, x⟩, ⟨S384x256, x⟩, ⟨S384x256, x⟩] hc (ix2 n (sq h r))
      = x (ix2 n r) := by
  refine concatenate_replicate_apply (t := S384x2048) 1 8 x hc rfl _ _ ?_ ?_
  · show r.val = (h.val * 256 + r.val) % 256; omega
  · intro b hb
    match b, hb with
    | ⟨0, _⟩, _ => rfl
    | ⟨1, _⟩, hb => exact absurd rfl hb

theorem cat_rows (x : FVec Ideal S64x2048 .f32) (h0 h1 h2 h3 h4 h5 h6 h7) (hc) (h : Fin 8) (d : Fin 64) (r : Fin 256) :
    concatenate S512x256 0 [⟨S64x256, extractStridedSlice S64x256 ![0, 0] x h0⟩, ⟨S64x256, extractStridedSlice S64x256 ![0, 256] x h1⟩, ⟨S64x256, extractStridedSlice S64x256 ![0, 512] x h2⟩,
        ⟨S64x256, extractStridedSlice S64x256 ![0, 768] x h3⟩, ⟨S64x256, extractStridedSlice S64x256 ![0, 1024] x h4⟩, ⟨S64x256, extractStridedSlice S64x256 ![0, 1280] x h5⟩,
        ⟨S64x256, extractStridedSlice S64x256 ![0, 1536] x h6⟩, ⟨S64x256, extractStridedSlice S64x256 ![0, 1792] x h7⟩] hc (ix2 (oc h d) r)
      = x (ix2 d (sq h r)) := by
  have key : ∀ (k : Nat) (hk : k < 8) (off : Fin 2 → Nat) (hs : S64x2048.Slices off S64x256) (hx : _) (e1 : off 0 = 0) (e2 : off 1 = k * 256) (ek : h.val = k), _ :=
    fun k hk off hs hx e1 e2 ek => (concatenate_apply_piece (t := S512x256) 0 [⟨S64x256, extractStridedSlice S64x256 ![0, 0] x h0⟩, ⟨S64x256, extractStridedSlice S64x256 ![0, 256] x h1⟩, ⟨S64x256, extractStridedSlice S64x256 ![0, 512] x h2⟩,
        ⟨S64x256, extractStridedSlice S64x256 ![0, 768] x h3⟩, ⟨S64x256, extractStridedSlice S64x256 ![0, 1024] x h4⟩, ⟨S64x256, extractStridedSlice S64x256 ![0, 1280] x h5⟩,
        ⟨S64x256, extractStridedSlice S64x256 ![0, 1536] x h6⟩, ⟨S64x256, extractStridedSlice S64x256 ![0, 1792] x h7⟩] hc (ix2 (oc h d) r) k hk S64x256 (extractStridedSlice S64x256 off x hs) hx rfl (k * 64) (by interval_cases k <;> rfl)
        (ix2 d r) (fun b hb => by
          match b, hb with
          | ⟨0, _⟩, hb => exact absurd rfl hb
          | ⟨1, _⟩, _ => rfl) (by show k * 64 + d.val = h.val * 64 + d.val; rw [ek])).trans
      (congrArg x (funext fun a => Fin.ext (by
          match a with
          | ⟨0, _⟩ => show off 0 + d.val = d.val; omega
          | ⟨1, _⟩ => show off 1 + r.val = h.val * 256 + r.val; omega)) : extractStridedSlice S64x256 off x hs (ix2 d r) = x (ix2 d (sq h r)))
  have hl := h.isLt
  generalize hv : h.val = v at hl
  interval_cases v
  · exact key 0 (by omega) _ h0 rfl rfl rfl hv
  · exact key 1 (by omega) _ h1 rfl rfl rfl hv
  · exact key 2 (by omega) _ h2 rfl rfl rfl hv
  · exact key 3 (by omega) _ h3 rfl rfl rfl hv
  · exact key 4 (by omega) _ h4 rfl rfl rfl hv
  · exact key 5 (by omega) _ h5 rfl rfl rfl hv
  · exact key 6 (by omega) _ h6 rfl rfl rfl hv
  · exact key 7 (by omega) _ h7 rfl rfl rfl hv

theorem move_at (y : FVec Ideal S512x256 .f32) (hb) (r : Fin 256) (c : Fin 512) :
    shapeCast S1x256x512 (truncf (F := Ideal) .bf16 (transpose S256x512 [1, 0] y transposes_S512x256_p1_0_S256x512) hb) shapeCasts_S256x512_S1x256x512 (ix3 0 r c)
      = y (ix2 c r) := by
  pointwise

theorem pay1_at (s m : FVec Ideal S1x2048 .f32) (p : FVec Ideal S384x2048 .bf16) (v : Vec Ideal S1x1x128x384 .bf16) (r : Fin 256) (h : Fin 8) (d : Fin 64) :
    k0_pay1 (F := Ideal) s m p v (ix3 0 r (oc h d))
      = Ideal.div (∑ n : Fin 384, v (ix4 0 0 ⟨d.val, by omega⟩ n) * p (ix2 n (sq h r)))
          ((∑ n : Fin 384, v (ix4 0 0 64 n) * p (ix2 n (sq h r))) + Ideal.exp (s (ix2 0 (sq h r)) - m (ix2 0 (sq h r)))) := by
  unfold k0_pay1
  refine (move_at _ _ r (oc h d)).trans ((cat_rows _ _ _ _ _ _ _ _ _ _ h d r).trans ?_)
  pointwise

/-- The mask's word at key row `n` and query `r`. -/
def mword (i : grid0.Coords) (n : Fin 384) (r : Fin 256) : BitVec 1 :=
  IntOp.andi
    (IntOp.cmpi .sle (IntOp.addi (Scalar.maxsi (Scalar.subi (Scalar.muli (BitVec.ofNat 32 (i 2).val) 256#32) 128#32) 0#32) (BitVec.ofNat 32 n.val))
      (IntOp.addi (Scalar.muli (BitVec.ofNat 32 (i 2).val) 256#32) (BitVec.ofNat 32 r.val)))
    (IntOp.cmpi .sgt (IntOp.addi (Scalar.maxsi (Scalar.subi (Scalar.muli (BitVec.ofNat 32 (i 2).val) 256#32) 128#32) 0#32) (BitVec.ofNat 32 n.val))
      (IntOp.subi (IntOp.addi (Scalar.muli (BitVec.ofNat 32 (i 2).val) 256#32) (BitVec.ofNat 32 r.val)) 128#32))

theorem pay2_at (i : grid0.Coords) (q : Vec Ideal S1x8x256x64 .bf16) (k : Vec Ideal S1x1x384x64 .bf16) (n : Fin 384) (r : Fin 256) (h : Fin 8) :
    k0_pay2 (F := Ideal) i q k (ix2 n (sq h r))
      = (∑ e : Fin 64, k (ix4 0 0 n e) * q (ix4 0 h r e)) + (if mword i n r = 1#1 then 0 else ⊥) := by
  unfold k0_pay2
  dsimp only
  rw [addf_apply]
  erw [cat_cols]
  refine congrArg₂ (· + ·) ?_ ?_
  · unfold sq; pointwise
  · pointwise
    rw [IdealRules.named_const.ideal_named_scalar _ _ _ _ rfl]; rfl

end Cert.Swa
-- ==== Proof.SwaSink.lean ====
module

public import proofs.«01_k».proof.Proof.SwaBlk
public import Idealize.ShloMosaic.Lib.Routing.Words

@[expose] public section

set_option maxRecDepth 16384

noncomputable section

/-! The sink's row, the row of greatest scores and the exponentials of one grid point, at one entry; and the words of
    the window's offset. -/

namespace Cert.Swa

open Idealize.ShloMosaic Idealize.ShloMosaic.TcCoe Idealize.SL.Sem
open Cert.KernelIdeal Cert.KernelIdeal.Gen

/-- The head number of a column as the kernel computes it: a signed quotient and its correction. -/
def hword (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 256#32 0#32)) (Scalar.extui (Scalar.cmpi .slt 256#32 0#32))))
      (IntOp.cmpi .ne (IntOp.remsi .vector x 256#32) 0#32))
    (IntOp.subi (IntOp.divsi .vector x 256#32) 1#32) (IntOp.divsi .vector x 256#32)

theorem hword_eq (c : Fin 2048) : hword (BitVec.ofNat 32 c.val) = BitVec.ofNat 32 (c.val / 256) := by
  have hd : IntOp.divsi .vector (BitVec.ofNat 32 c.val) 256#32 = BitVec.ofNat 32 (c.val / 256) :=
    Routing.divsi_word .vector (by omega) (by omega) (by omega)
  rcases Nat.eq_zero_or_pos c.val with h0 | h0
  · rw [h0]; rfl
  · have ht : (BitVec.ofNat 32 c.val).toInt = c.val := by rw [BitVec.toInt_ofNat']; exact Int.bmod_eq_of_le (by omega) (by omega)
    have e1 : IntOp.cmpi .sgt (BitVec.ofNat 32 c.val) 0#32 = 1#1 := by
      show BitVec.ofBool (BitVec.slt 0#32 (BitVec.ofNat 32 c.val)) = 1#1
      rw [BitVec.slt_eq_decide, ht, decide_eq_true (by show (0 : Int) < (c.val : Int); omega)]; rfl
    have e2 : IntOp.cmpi .slt (BitVec.ofNat 32 c.val) 0#32 = 0#1 := by
      show BitVec.ofBool (BitVec.slt (BitVec.ofNat 32 c.val) 0#32) = 0#1
      rw [BitVec.slt_eq_decide, ht, decide_eq_false (by show ¬ ((c.val : Int) < 0); omega)]; rfl
    unfold hword
    rw [e1, e2, hd]
    have e3 : ∀ z : BitVec 1, IntOp.andi (IntOp.cmpi .ne (IntOp.subi (BitVec.setWidth 32 (1#1 : BitVec 1)) (BitVec.setWidth 32 (0#1 : BitVec 1)))
        (Scalar.subi (Scalar.extui (Scalar.cmpi .sgt 256#32 0#32)) (Scalar.extui (Scalar.cmpi .slt 256#32 0#32)))) z = 0#1 := by decide
    rw [e3]; rfl

theorem pay6_at (x y u w : IVec S1x2048 32) (c : Fin 2048) :
    k0_pay6 x 256#32 y u w (ix2 0 c) = Scalar.select
      (IntOp.andi
        (IntOp.cmpi .ne (IntOp.subi (u (ix2 0 c)) (w (ix2 0 c)))
          (Scalar.subi (Scalar.extui (Scalar.cmpi .sgt 256#32 0#32)) (Scalar.extui (Scalar.cmpi .slt 256#32 0#32))))
        (IntOp.cmpi .ne (IntOp.remsi .vector (x (ix2 0 c)) 256#32) 0#32))
      (IntOp.subi (y (ix2 0 c)) 1#32) (y (ix2 0 c)) := by
  unfold k0_pay6
  dsimp only [select, andi, cmpi, subi, remsi, broadcast]

/-- The column numbers. -/
abbrev crow : IVec S1x2048 32 := iota .tc S1x2048 32 [1] iota_S1x2048_d1_w32

theorem crow_at (c : Fin 2048) : crow (ix2 0 c) = BitVec.ofNat 32 c.val := by
  pointwise

theorem pay3_at (c : Fin 2048) : k0_pay3 (ix2 0 c) = IntOp.divsi .vector (BitVec.ofNat 32 c.val) 256#32 := by
  rw [← crow_at c]
  unfold k0_pay3
  dsimp only [divsi, broadcast]

theorem pay4_at (c : Fin 2048) : k0_pay4 (ix2 0 c) = BitVec.setWidth 32 (IntOp.cmpi .sgt (BitVec.ofNat 32 c.val) 0#32) := by
  rw [← crow_at c]
  unfold k0_pay4
  dsimp only [extui, cmpi, broadcast]

theorem pay5_at (c : Fin 2048) : k0_pay5 (ix2 0 c) = BitVec.setWidth 32 (IntOp.cmpi .slt (BitVec.ofNat 32 c.val) 0#32) := by
  rw [← crow_at c]
  unfold k0_pay5
  dsimp only [extui, cmpi, broadcast]

theorem hrow_at (h : Fin 8) (r : Fin 256) : k0_pay6 crow 256#32 k0_pay3 k0_pay4 k0_pay5 (ix2 0 (sq h r)) = BitVec.ofNat 32 h.val := by
  rw [pay6_at, pay3_at, pay4_at, pay5_at, crow_at]
  refine (hword_eq (sq h r)).trans (congrArg (BitVec.ofNat 32) ?_)
  show (h.val * 256 + r.val) / 256 = h.val; omega

theorem pay7_at (x y u w : IVec S1x2048 32) (s0 s1 s2 : EReal) (c : Fin 2048) :
    k0_pay7 (F := Ideal) x 256#32 y u w s0 s1 s2 (ix2 0 c)
      = Scalar.select (IntOp.cmpi .eq (k0_pay6 x 256#32 y u w (ix2 0 c)) 2#32) s2 (Scalar.select (IntOp.cmpi .eq (k0_pay6 x 256#32 y u w (ix2 0 c)) 1#32) s1
        (Scalar.select (IntOp.cmpi .eq (k0_pay6 x 256#32 y u w (ix2 0 c)) 0#32) s0 (Scalar.ofBits (F := Ideal) .f32 0x00000000#32))) := by
  unfold k0_pay7
  dsimp only [select, cmpi, broadcast]

theorem pay8_at (x y u w : IVec S1x2048 32) (c : Fin 2048) :
    k0_pay8 x 256#32 y u w (ix2 0 c) = IntOp.cmpi .eq (k0_pay6 x 256#32 y u w (ix2 0 c)) 3#32 := by
  unfold k0_pay8
  dsimp only [cmpi, broadcast]

theorem pay9_at (x : IVec S1x2048 32) (a : FVec Ideal S1x2048 .f32) (b : IVec S1x2048 1) (s3 s4 s5 s6 s7 : EReal) (c : Fin 2048) :
    k0_pay9 (F := Ideal) x a b s3 s4 s5 s6 s7 (ix2 0 c)
      = Scalar.select (IntOp.cmpi .eq (x (ix2 0 c)) 7#32) s7 (Scalar.select (IntOp.cmpi .eq (x (ix2 0 c)) 6#32) s6
        (Scalar.select (IntOp.cmpi .eq (x (ix2 0 c)) 5#32) s5 (Scalar.select (IntOp.cmpi .eq (x (ix2 0 c)) 4#32) s4
        (Scalar.select (b (ix2 0 c)) s3 (a (ix2 0 c)))))) := by
  unfold k0_pay9
  dsimp only [select, cmpi, broadcast]

theorem srow_at (S : Fin 8 → EReal) (h : Fin 8) (r : Fin 256) :
    k0_pay9 (F := Ideal) (k0_pay6 crow 256#32 k0_pay3 k0_pay4 k0_pay5) (k0_pay7 (F := Ideal) crow 256#32 k0_pay3 k0_pay4 k0_pay5 (S 0) (S 1) (S 2))
      (k0_pay8 crow 256#32 k0_pay3 k0_pay4 k0_pay5) (S 3) (S 4) (S 5) (S 6) (S 7) (ix2 0 (sq h r)) = S h := by
  rw [pay9_at, pay8_at, pay7_at, hrow_at]
  fin_cases h <;> rfl

/-- The greatest score of one column, or the sink. -/
def bmx (z : FVec Ideal S384x2048 .f32) (s : EReal) (c : Fin 2048) : EReal :=
  max (Finset.univ.fold max ⊥ fun n : Fin 384 => z (ix2 n c)) s

theorem ninfK : Ideal.ofBits .f32 (4286578688#32) = (⊥ : EReal) := by
  simp [Ideal.ofBits, Ideal.ieee]

theorem red_at (z : FVec Ideal S384x2048 .f32)  (c : Fin 2048) :
    multiReduction .maximumf [0] S2048 z 0xFF800000#32 reduces_S384x2048_S2048 (.inl rfl) rfl (ix1 c) = Finset.univ.fold max ⊥ fun n : Fin 384 => z (ix2 n c) := by
  pointwise
  rw [ninfK]

theorem maxr_at (y : FVec Ideal S2048 .f32) (s : FVec Ideal S1x2048 .f32)  (c : Fin 2048) :
    maximumf (shapeCast S1x2048 y shapeCasts_S2048_S1x2048) s (ix2 0 c) = max (y (ix1 c)) (s (ix2 0 c)) := by
  pointwise

theorem pay10_at (z : FVec Ideal S384x2048 .f32) (x : IVec S1x2048 32) (a : FVec Ideal S1x2048 .f32) (b : IVec S1x2048 1) (s3 s4 s5 s6 s7 : EReal) (c : Fin 2048) :
    k0_pay10 (F := Ideal) z x a b s3 s4 s5 s6 s7 (ix2 0 c) = bmx z (k0_pay9 (F := Ideal) x a b s3 s4 s5 s6 s7 (ix2 0 c)) c := by
  unfold k0_pay10 bmx
  rw [← red_at]
  exact maxr_at _ _ c

theorem expr_at (z : FVec Ideal S384x2048 .f32) (s : FVec Ideal S1x2048 .f32) (hb) (n : Fin 384) (c : Fin 2048) :
    truncf (F := Ideal) .bf16 (exp (subf z (broadcastTo S384x2048 s broadcasts_S1x2048_S384x2048))) hb (ix2 n c) = Ideal.exp (z (ix2 n c) - s (ix2 0 c)) := by
  pointwise

theorem pay11_at (z : FVec Ideal S384x2048 .f32) (x : IVec S1x2048 32) (a : FVec Ideal S1x2048 .f32) (b : IVec S1x2048 1) (s3 s4 s5 s6 s7 : EReal) (n : Fin 384) (c : Fin 2048) :
    k0_pay11 (F := Ideal) z x a b s3 s4 s5 s6 s7 (ix2 n c) = Ideal.exp (z (ix2 n c) - k0_pay10 (F := Ideal) z x a b s3 s4 s5 s6 s7 (ix2 0 c)) := by
  unfold k0_pay11
  exact expr_at _ _ _ n c

/-- The window's first key, from the tile's number. -/
def wsn (a : Nat) : Nat := a * 256 - 128

theorem wsn_word (a : Nat) (ha : a < 16) :
    Scalar.maxsi (Scalar.subi (Scalar.muli (BitVec.ofNat 32 a) 256#32) 128#32) 0#32 = BitVec.ofNat 32 (wsn a) := by
  interval_cases a <;> rfl

/-- The window's first key. -/
def ws (i : grid0.Coords) : Nat := wsn (i 2).val

theorem ws_word (i : grid0.Coords) :
    Scalar.maxsi (Scalar.subi (Scalar.muli (BitVec.ofNat 32 (i 2).val) 256#32) 128#32) 0#32 = BitVec.ofNat 32 (ws i) :=
  wsn_word _ (i 2).isLt

theorem ws_lt (i : grid0.Coords) : ws i + 384 ≤ 4096 := by
  have : (i 2).val < 16 := (i 2).isLt
  unfold ws wsn; omega

theorem toNat_small (n : Nat) (h : n + 384 ≤ 4096) : (BitVec.ofNat 32 n).toNat = n := by
  rw [BitVec.toNat_ofNat, Nat.mod_eq_of_lt (by omega)]

theorem off1_eq (i : grid0.Coords) : k0_off1 i = ![0, 0, ws i, 0] := by
  unfold k0_off1
  dsimp only
  rw [ws_word, show Scalar.indexCast (BitVec.ofNat 32 (ws i)) = BitVec.ofNat 32 (ws i) from rfl, toNat_small _ (ws_lt i)]

theorem off3_eq (i : grid0.Coords) : k0_off3 i = ![0, 0, 0, ws i] := by
  unfold k0_off3
  dsimp only
  rw [ws_word, show Scalar.indexCast (BitVec.ofNat 32 (ws i)) = BitVec.ofNat 32 (ws i) from rfl, toNat_small _ (ws_lt i)]

theorem sink_word (a h : Nat) (ha : a < 2) (hh : h < 8) :
    (Scalar.indexCast (Scalar.addi (Scalar.muli (BitVec.ofNat 32 a) 8#32) (BitVec.ofNat 32 h))).toNat = a * 8 + h := by
  interval_cases a <;> interval_cases h <;> rfl

theorem off2_eq (i : grid0.Coords) (h : Fin 8) : k0_off2 i (BitVec.ofNat 32 h.val) = ![(i 1).val * 8 + h.val] := by
  unfold k0_off2
  dsimp only
  rw [sink_word _ _ (i 1).isLt h.isLt]

theorem mword_iff (i : grid0.Coords) (n : Fin 384) (r : Fin 256) :
    mword i n r = 1#1 ↔ (ws i + n.val ≤ (i 2).val * 256 + r.val ∧ (i 2).val * 256 + r.val < ws i + n.val + 128) := by
  have h2 : (i 2).val < 16 := (i 2).isLt
  have hw := ws_lt i
  have ea : IntOp.addi (Scalar.maxsi (Scalar.subi (Scalar.muli (BitVec.ofNat 32 (i 2).val) 256#32) 128#32) 0#32) (BitVec.ofNat 32 n.val) = BitVec.ofNat 32 (ws i + n.val) := by
    rw [ws_word]; exact (BitVec.ofNat_add _ _).symm
  have et : IntOp.addi (Scalar.muli (BitVec.ofNat 32 (i 2).val) 256#32) (BitVec.ofNat 32 r.val) = BitVec.ofNat 32 ((i 2).val * 256 + r.val) := by
    rw [BitVec.ofNat_add, BitVec.ofNat_mul]; rfl
  unfold mword
  rw [ea, et]
  have ha' : ws i + n.val < 8192 := by omega
  have hb' : (i 2).val * 256 + r.val < 8192 := by omega
  generalize ws i + n.val = a at *
  generalize (i 2).val * 256 + r.val = b at *
  have hj : (BitVec.ofNat 32 a).toInt = a := by rw [BitVec.toInt_ofNat']; exact Int.bmod_eq_of_le (by omega) (by omega)
  have ht : (BitVec.ofNat 32 b).toInt = b := by rw [BitVec.toInt_ofNat']; exact Int.bmod_eq_of_le (by omega) (by omega)
  have hs : (BitVec.ofNat 32 b - 128#32).toInt = (b : Int) - 128 := by
    rw [BitVec.toInt_sub, ht]; exact Int.bmod_eq_of_le (by simp; omega) (by simp; omega)
  have e : IntOp.andi (IntOp.cmpi .sle (BitVec.ofNat 32 a) (BitVec.ofNat 32 b)) (IntOp.cmpi .sgt (BitVec.ofNat 32 a) (IntOp.subi (BitVec.ofNat 32 b) 128#32))
      = BitVec.ofBool (decide (a ≤ b)) &&& BitVec.ofBool (decide (b < a + 128)) := by
    show BitVec.ofBool (BitVec.sle _ _) &&& BitVec.ofBool (BitVec.slt (BitVec.ofNat 32 b - 128#32) _) = _
    rw [BitVec.sle_eq_decide, BitVec.slt_eq_decide, hj, ht, hs]
    congr 3 <;> simp <;> omega
  rw [e]
  by_cases h1 : a ≤ b <;> by_cases h2 : b < a + 128 <;> simp [h1, h2]

end Cert.Swa
-- ==== Proof.SwaEq.lean ====
module

public import Idealize.ShloMosaic.Lib.Pointwise

@[expose] public section

noncomputable section

/-! Sums and maxima over all keys that only a window of 384 of them feeds. -/

namespace Cert.Swa

open Idealize.ShloMosaic

/-- Key `n` of the window that begins at `w`. -/
def key (w : Nat) (hw : w + 384 ≤ 4096) (n : Fin 384) : Fin 4096 := ⟨w + n.val, by omega⟩

theorem key_inj (w : Nat) (hw : w + 384 ≤ 4096) : Function.Injective (key w hw) := fun a b h => by
  have h' : w + a.val = w + b.val := congrArg Fin.val h
  exact Fin.ext (by omega)

theorem key_out (w : Nat) (hw : w + 384 ≤ 4096) (j : Fin 4096) (h : j ∉ Set.range (key w hw)) : ¬ (w ≤ j.val ∧ j.val < w + 384) := fun hj =>
  h ⟨⟨j.val - w, by omega⟩, Fin.ext (by show w + (j.val - w) = j.val; omega)⟩

theorem sum_window (w : Nat) (hw : w + 384 ≤ 4096) (f : Fin 4096 → EReal) (h0 : ∀ j : Fin 4096, ¬ (w ≤ j.val ∧ j.val < w + 384) → f j = 0) :
    ∑ j : Fin 4096, f j = ∑ n : Fin 384, f (key w hw n) :=
  (Fintype.sum_of_injective (key w hw) (key_inj w hw) (fun n => f (key w hw n)) f (fun j hj => h0 j (key_out w hw j hj)) fun _ => rfl).symm

theorem max_window (w : Nat) (hw : w + 384 ≤ 4096) (f : Fin 4096 → EReal) (h0 : ∀ j : Fin 4096, ¬ (w ≤ j.val ∧ j.val < w + 384) → f j = ⊥) :
    (Finset.univ.fold max ⊥ f : EReal) = Finset.univ.fold max ⊥ fun n : Fin 384 => f (key w hw n) := by
  show Finset.univ.sup f = Finset.univ.sup fun n : Fin 384 => f (key w hw n)
  refine le_antisymm (Finset.sup_le fun j _ => ?_) (Finset.sup_le fun n _ => Finset.le_sup (f := f) (Finset.mem_univ _))
  by_cases hj : j ∈ Set.range (key w hw)
  · obtain ⟨n, rfl⟩ := hj
    exact Finset.le_sup (f := fun n : Fin 384 => f (key w hw n)) (Finset.mem_univ n)
  · rw [h0 j (key_out w hw j hj)]; exact bot_le

theorem exp_bot_sub (x : EReal) : Ideal.exp (⊥ - x) = 0 := by
  rw [sub_eq_add_neg, EReal.bot_add, Ideal.exp_bot]

theorem sum_scale {ι : Type} (s : Finset ι) (a b : ι → EReal) (r : ℝ) (hr : 0 ≤ r) :
    ∑ i ∈ s, a i * (b i * (r : EReal)) = (∑ i ∈ s, a i * b i) * (r : EReal) := by
  classical
  induction s using Finset.induction_on with
  | empty => simp
  | insert i s hi ih =>
    rw [Finset.sum_insert hi, Finset.sum_insert hi, ih, ← mul_assoc,
      EReal.right_distrib_of_nonneg_of_ne_top (EReal.coe_nonneg.mpr hr) (EReal.coe_ne_top r)]

end Cert.Swa
-- ==== Proof.SwaPt.lean ====
module

public import proofs.«01_k».proof.Proof.SwaRef
public import proofs.«01_k».proof.Proof.SwaSink
public import proofs.«01_k».proof.Proof.SwaEq

@[expose] public section

set_option maxRecDepth 16384

noncomputable section

/-! The block the kernel writes, read at one entry: the attention of the specification. -/

namespace Cert.Swa

open Idealize.ShloMosaic Idealize.ShloMosaic.TcCoe Idealize.SL.Sem
open Cert.KernelIdeal Cert.KernelIdeal.Gen

/-- Query `r` of tile `a`. -/
def qt (a : Fin 16) (r : Fin 256) : Fin 4096 := ⟨a.val * 256 + r.val, by omega⟩

/-- The block's payload from the eight sinks and the three loaded arrays. -/
def body (i : grid0.Coords) (S : Fin 8 → EReal) (q : Vec Ideal S1x8x256x64 .bf16) (k : Vec Ideal S1x1x384x64 .bf16) (v : Vec Ideal S1x1x128x384 .bf16) : FVec Ideal S1x256x512 .bf16 :=
  k0_pay1 (F := Ideal)
    (k0_pay9 (F := Ideal) (k0_pay6 crow 256#32 k0_pay3 k0_pay4 k0_pay5) (k0_pay7 (F := Ideal) crow 256#32 k0_pay3 k0_pay4 k0_pay5 (S 0) (S 1) (S 2))
      (k0_pay8 crow 256#32 k0_pay3 k0_pay4 k0_pay5) (S 3) (S 4) (S 5) (S 6) (S 7))
    (k0_pay10 (F := Ideal) (k0_pay2 (F := Ideal) i q k) (k0_pay6 crow 256#32 k0_pay3 k0_pay4 k0_pay5) (k0_pay7 (F := Ideal) crow 256#32 k0_pay3 k0_pay4 k0_pay5 (S 0) (S 1) (S 2))
      (k0_pay8 crow 256#32 k0_pay3 k0_pay4 k0_pay5) (S 3) (S 4) (S 5) (S 6) (S 7))
    (k0_pay11 (F := Ideal) (k0_pay2 (F := Ideal) i q k) (k0_pay6 crow 256#32 k0_pay3 k0_pay4 k0_pay5) (k0_pay7 (F := Ideal) crow 256#32 k0_pay3 k0_pay4 k0_pay5 (S 0) (S 1) (S 2))
      (k0_pay8 crow 256#32 k0_pay3 k0_pay4 k0_pay5) (S 3) (S 4) (S 5) (S 6) (S 7)) v

/-- The payload at one entry, from the block's scores. -/
theorem body_scores (i : grid0.Coords) (S : Fin 8 → EReal) (q : Vec Ideal S1x8x256x64 .bf16) (k : Vec Ideal S1x1x384x64 .bf16) (v : Vec Ideal S1x1x128x384 .bf16)
    (r : Fin 256) (h : Fin 8) (d : Fin 64) :
    body i S q k v (ix3 0 r (oc h d)) = Ideal.div
      (∑ n : Fin 384, v (ix4 0 0 ⟨d.val, by omega⟩ n) * Ideal.exp (k0_pay2 (F := Ideal) i q k (ix2 n (sq h r)) - bmx (k0_pay2 (F := Ideal) i q k) (S h) (sq h r)))
      ((∑ n : Fin 384, v (ix4 0 0 64 n) * Ideal.exp (k0_pay2 (F := Ideal) i q k (ix2 n (sq h r)) - bmx (k0_pay2 (F := Ideal) i q k) (S h) (sq h r)))
        + Ideal.exp (S h - bmx (k0_pay2 (F := Ideal) i q k) (S h) (sq h r))) := by
  unfold body
  rw [pay1_at]
  simp only [pay11_at, pay10_at, srow_at]

variable (Q : FVec Ideal ReferenceIdeal.S16x4096x16x64 .f32) (K W : FVec Ideal ReferenceIdeal.S16x4096x2x64 .f32) (sk : FVec Ideal ReferenceIdeal.S16 .f32)

theorem score_at (i : grid0.Coords) (a : Fin 16) (ha : (i 2).val = a.val) (b : Fin 16) (g : Fin 2)
    (q : Vec Ideal S1x8x256x64 .bf16) (k : Vec Ideal S1x1x384x64 .bf16)
    (hq : ∀ h r e, q (ix4 0 h r e) = Q (ix4 b (qt a r) (hd g h) e) * ((1/8 : ℝ) : EReal))
    (hk : ∀ n e, k (ix4 0 0 n e) = K (ix4 b (key (ws i) (ws_lt i) n) g e))
    (n : Fin 384) (r : Fin 256) (h : Fin 8) :
    k0_pay2 (F := Ideal) i q k (ix2 n (sq h r)) = sc Q K b (qt a r) g h (key (ws i) (ws_lt i) n) := by
  rw [pay2_at]
  simp only [hq, hk]
  rw [sum_scale _ _ _ _ (by norm_num)]
  have hiff : mword i n r = 1#1 ↔ ((key (ws i) (ws_lt i) n).val ≤ (qt a r).val ∧ (qt a r).val < (key (ws i) (ws_lt i) n).val + 128) := by
    rw [mword_iff, ha]; exact Iff.rfl
  unfold sc
  by_cases hw : mword i n r = 1#1
  · rw [if_pos hw, if_pos (hiff.mp hw), add_zero]
  · rw [if_neg hw, if_neg (fun x => hw (hiff.mpr x)), EReal.add_bot]

theorem sc_out (i : grid0.Coords) (a : Fin 16) (ha : (i 2).val = a.val) (b : Fin 16) (g : Fin 2) (r : Fin 256) (h : Fin 8) (j : Fin 4096)
    (hj : ¬ (ws i ≤ j.val ∧ j.val < ws i + 384)) : sc Q K b (qt a r) g h j = ⊥ := by
  refine if_neg fun hw => hj ?_
  have h1 : j.val ≤ a.val * 256 + r.val := hw.1
  have h2 : a.val * 256 + r.val < j.val + 128 := hw.2
  unfold ws wsn; rw [ha]; omega

theorem body_at (i : grid0.Coords) (a : Fin 16) (ha : (i 2).val = a.val) (b : Fin 16) (g : Fin 2)
    (S : Fin 8 → EReal) (q : Vec Ideal S1x8x256x64 .bf16) (k : Vec Ideal S1x1x384x64 .bf16) (v : Vec Ideal S1x1x128x384 .bf16)
    (hs : ∀ h, S h = sk (ix1 (hd g h)))
    (hq : ∀ h r e, q (ix4 0 h r e) = Q (ix4 b (qt a r) (hd g h) e) * ((1/8 : ℝ) : EReal))
    (hk : ∀ n e, k (ix4 0 0 n e) = K (ix4 b (key (ws i) (ws_lt i) n) g e))
    (hv : ∀ n (d : Fin 64), v (ix4 0 0 ⟨d.val, by omega⟩ n) = W (ix4 b (key (ws i) (ws_lt i) n) g d))
    (h1 : ∀ n, v (ix4 0 0 64 n) = (1 : EReal))
    (r : Fin 256) (h : Fin 8) (d : Fin 64) :
    body i S q k v (ix3 0 r (oc h d)) = att Q K W sk b (qt a r) g h d := by
  have hmx : bmx (k0_pay2 (F := Ideal) i q k) (S h) (sq h r) = mx Q K sk b (qt a r) g h := by
    unfold bmx mx
    rw [hs, max_window (ws i) (ws_lt i) (fun j => sc Q K b (qt a r) g h j) (fun j hj => sc_out Q K i a ha b g r h j hj)]
    simp only [score_at Q K i a ha b g q k hq hk]
  rw [body_scores, hmx]
  simp only [score_at Q K i a ha b g q k hq hk, hv, h1, hs, one_mul]
  unfold att
  have e0 : ∀ j : Fin 4096, ¬ (ws i ≤ j.val ∧ j.val < ws i + 384) → Ideal.exp (sc Q K b (qt a r) g h j - mx Q K sk b (qt a r) g h) = 0 := fun j hj => by
    rw [sc_out Q K i a ha b g r h j hj, exp_bot_sub]
  rw [sum_window (ws i) (ws_lt i) (fun j => Ideal.exp (sc Q K b (qt a r) g h j - mx Q K sk b (qt a r) g h)) e0,
    sum_window (ws i) (ws_lt i) (fun j => W (ix4 b j g d) * Ideal.exp (sc Q K b (qt a r) g h j - mx Q K sk b (qt a r) g h))
      (fun j hj => by rw [e0 j hj]; exact mul_zero _)]

end Cert.Swa
-- ==== Proof.SwaHost.lean ====
module

public import proofs.«01_k».proof.Proof.SwaRef
public import proofs.«01_k».proof.Proof.SwaSink
public import proofs.«01_k».proof.Proof.Gen.KernelIdeal.Value
public import Idealize.ShloMosaic.Lib.Pipeline.ValueKit
public import Idealize.ShloMosaic.Lib.Claim

@[expose] public section

set_option maxRecDepth 16384

noncomputable section

namespace Cert.Swa

open Idealize.ShloMosaic Idealize.ShloMosaic.TcCoe Idealize.SL.Sem
open Cert.KernelIdeal Cert.KernelIdeal.Gen

variable (m : (ℓ : Loc nD τ sig) → Buf (Elt Ideal) ℓ)

/-- The array of values the kernel reads: a row of ones and rows of zeros joined below the values. -/
def vones (v : FVec Ideal S16x4096x2x64 .f32) : FVec Ideal S16x2x128x4096 .bf16 :=
  truncf .bf16 (transpose S16x2x128x4096 [0, 2, 3, 1]
    (concatenate S16x4096x2x128 3 [⟨S16x4096x2x64, v⟩, ⟨S16x4096x2x1, broadcastInDim S16x4096x2x1 ![] bcast_S_S16x4096x2x1 (constant S_ .f32 1065353216#32)⟩,
      ⟨S16x4096x2x63, broadcastInDim S16x4096x2x63 ![] bcast_S_S16x4096x2x63 (constant S_ .f32 0#32)⟩] concatenates_S16x4096x2x64_S16x4096x2x1_S16x4096x2x63_S16x4096x2x128_d3)
    transposes_S16x4096x2x128_S16x2x128x4096_0_2_3_1) bitsLt_bf16_f32

theorem vones_val (v : FVec Ideal S16x4096x2x64 .f32) (b : Fin 16) (g : Fin 2) (d : Fin 64) (j : Fin 4096) :
    vones v (ix4 b g ⟨d.val, by omega⟩ j) = v (ix4 b j g d) := by
  pointwise [vones]

theorem vones_one (v : FVec Ideal S16x4096x2x64 .f32) (b : Fin 16) (g : Fin 2) (j : Fin 4096) :
    vones v (ix4 b g 64 j) = (1 : EReal) := by
  pointwise [vones]

theorem host3 (c : Dev nD) : V m c main_v10 = vones (m ((c : Thread nD τ).loc main_arg2)) := by
  unfold V vones
  after_results
  refine congrArg (fun y => truncf .bf16 (transpose S16x2x128x4096 [0, 2, 3, 1] y
    transposes_S16x4096x2x128_S16x2x128x4096_0_2_3_1) bitsLt_bf16_f32) (StableHlo.concatenate_congr _ _ ?_ _ _)
  refine congrArg₂ List.cons (congrArg (Sigma.mk S16x4096x2x64) ?_) (congrArg₂ List.cons (congrArg (Sigma.mk S16x4096x2x1) ?_)
    (congrArg₂ List.cons (congrArg (Sigma.mk S16x4096x2x63) ?_) rfl))
  · refine Eq.trans (b := HloOp.result _ _ (Proc.devRef .tc main_arg2)) rfl ?_
    after_results_steps
    all_goals rfl
  · refine Eq.trans (b := HloOp.result _ _ (Proc.devRef .tc main_v6)) rfl ?_
    after_results_steps
    all_goals rfl
  · refine Eq.trans (b := HloOp.result _ _ (Proc.devRef .tc main_v7)) rfl ?_
    after_results_steps
    all_goals rfl

theorem host0 (c : Dev nD) : V m c main_arg3 = m ((c : Thread nD τ).loc main_arg3) := by
  entry_read
  rfl

/-- The array of queries the kernel reads, scaled and laid out by heads. -/
def qhost (q : FVec Ideal S16x4096x16x64 .f32) : FVec Ideal S16x16x4096x64 .bf16 :=
  truncf .bf16 (transpose S16x16x4096x64 [0, 2, 1, 3]
    (mulf q (broadcastInDim S16x4096x16x64 ![] bcast_S_S16x4096x16x64 (constant S_ .f32 1040187392#32)))
    transposes_S16x4096x16x64_S16x16x4096x64_0_2_1_3) bitsLt_bf16_f32

theorem qhost_at (q : FVec Ideal S16x4096x16x64 .f32) (b h : Fin 16) (j : Fin 4096) (e : Fin 64) :
    qhost q (ix4 b h j e) = q (ix4 b j h e) * ((1/8 : ℝ) : EReal) := by
  pointwise [qhost]
  rw [eighth]

theorem host1 (c : Dev nD) : V m c main_v3 = qhost (m ((c : Thread nD τ).loc main_arg0)) := by
  unfold qhost
  entry_read
  rfl

/-- The array of keys the kernel reads. -/
def khost (k : FVec Ideal S16x4096x2x64 .f32) : FVec Ideal S16x2x4096x64 .bf16 :=
  truncf .bf16 (transpose S16x2x4096x64 [0, 2, 1, 3] k transposes_S16x4096x2x64_S16x2x4096x64_0_2_1_3) bitsLt_bf16_f32

theorem khost_at (k : FVec Ideal S16x4096x2x64 .f32) (b : Fin 16) (g : Fin 2) (j : Fin 4096) (e : Fin 64) :
    khost k (ix4 b g j e) = k (ix4 b j g e) := by
  pointwise [khost]

theorem host2 (c : Dev nD) : V m c main_v5 = khost (m ((c : Thread nD τ).loc main_arg1)) := by
  unfold khost
  entry_read
  rfl

end Cert.Swa
-- ==== Proof.SwaArr.lean ====
module

public import proofs.«01_k».proof.Proof.SwaPt
public import proofs.«01_k».proof.Proof.SwaHost
public import proofs.«01_k».proof.Proof.Gen.KernelIdeal.Value
public import Idealize.ShloMosaic.Lib.Pipeline.ValueKit
public import Idealize.ShloMosaic.Lib.Claim

@[expose] public section

set_option maxRecDepth 16384

noncomputable section

namespace Cert.Swa

open Idealize.ShloMosaic Idealize.ShloMosaic.TcCoe Idealize.SL.Sem
open Cert.KernelIdeal Cert.KernelIdeal.Gen

variable (m : (ℓ : Loc nD τ sig) → Buf (Elt Ideal) ℓ)

theorem idx : ∀ t : Fin cfg0.N, win0_0.index t = ![0]
    ∧ win0_1.index t = ![(grid0.coords t 0).val, (grid0.coords t 1).val, (grid0.coords t 2).val, 0]
    ∧ win0_2.index t = ![(grid0.coords t 0).val, (grid0.coords t 1).val, 0, 0]
    ∧ win0_3.index t = ![(grid0.coords t 0).val, (grid0.coords t 1).val, 0, 0]
    ∧ win0_4.index t = ![(grid0.coords t 0).val, (grid0.coords t 2).val, (grid0.coords t 1).val] :=
  (by decide +kernel : ∀ t : Fin grid0.N, _)

/-- The batch, the key group and the tile of a grid point. -/
def pb (t : Fin cfg0.N) : Fin 16 := grid0.coords t 0
def pg (t : Fin cfg0.N) : Fin 2 := grid0.coords t 1
def pa (t : Fin cfg0.N) : Fin 16 := grid0.coords t 2
theorem emb0 (t : Fin cfg0.N) (i : Fin 16) : ((win0_0.blk t).view.emb (ix1 i) : S16.Idx) = ix1 i := by
  blk_ext [idx t]

theorem emb1 (t : Fin cfg0.N) (h : Fin 8) (r : Fin 256) (e : Fin 64) :
    ((win0_1.blk t).view.emb (ix4 0 h r e) : S16x16x4096x64.Idx) = ix4 (pb t) (hd (pg t) h) (qt (pa t) r) e := by
  blk_ext [idx t, pb, pg, pa, qt, hd]

theorem emb2 (t : Fin cfg0.N) (j : Fin 4096) (e : Fin 64) :
    ((win0_2.blk t).view.emb (ix4 0 0 j e) : S16x2x4096x64.Idx) = ix4 (pb t) (pg t) j e := by
  blk_ext [idx t, pb, pg, pa, qt, hd]

theorem emb3 (t : Fin cfg0.N) (j : Fin 4096) (e : Fin 128) :
    ((win0_3.blk t).view.emb (ix4 0 0 e j) : S16x2x128x4096.Idx) = ix4 (pb t) (pg t) e j := by
  blk_ext [idx t, pb, pg, pa, qt, hd]

theorem emb4 (t : Fin cfg0.N) (r : Fin 256) (h : Fin 8) (d : Fin 64) :
   ((win0_4.blk t).view.emb (ix3 0 r (oc h d)) : S16x4096x1024.Idx) = ix3 (pb t) (qt (pa t) r) (col (pg t) h d) := by
  blk_ext [idx t, pb, pg, pa, qt, oc, col]

variable (c : Dev nD)

/-- The four arguments. -/
abbrev aq : FVec Ideal S16x4096x16x64 .f32 := m ((c : Thread nD τ).loc main_arg0)
abbrev ak : FVec Ideal S16x4096x2x64 .f32 := m ((c : Thread nD τ).loc main_arg1)
abbrev av : FVec Ideal S16x4096x2x64 .f32 := m ((c : Thread nD τ).loc main_arg2)
abbrev ask : FVec Ideal S16 .f32 := m ((c : Thread nD τ).loc main_arg3)

theorem ib0 (t : Fin cfg0.N) (x : Fin 16) : (iblk m c 0 t : FVec Ideal S16 .f32) (ix1 x) = ask m c (ix1 x) := by
  show (V m c main_arg3 : FVec Ideal S16 .f32) ((win0_0.blk t).view.emb (ix1 x)) = _
  rw [emb0, host0]

theorem ib1 (t : Fin cfg0.N) (h : Fin 8) (r : Fin 256) (e : Fin 64) :
    (iblk m c 1 t : FVec Ideal S1x8x256x64 .bf16) (ix4 0 h r e) = aq m c (ix4 (pb t) (qt (pa t) r) (hd (pg t) h) e) * ((1/8 : ℝ) : EReal) := by
  show (V m c main_v3 : FVec Ideal S16x16x4096x64 .bf16) ((win0_1.blk t).view.emb (ix4 0 h r e)) = _
  rw [emb1, host1, qhost_at]

theorem ib2 (t : Fin cfg0.N) (j : Fin 4096) (e : Fin 64) :
    (iblk m c 2 t : FVec Ideal S1x1x4096x64 .bf16) (ix4 0 0 j e) = ak m c (ix4 (pb t) j (pg t) e) := by
  show (V m c main_v5 : FVec Ideal S16x2x4096x64 .bf16) ((win0_2.blk t).view.emb (ix4 0 0 j e)) = _
  rw [emb2, host2, khost_at]

theorem ib3 (t : Fin cfg0.N) (j : Fin 4096) (e : Fin 128) :
    (iblk m c 3 t : FVec Ideal S1x1x128x4096 .bf16) (ix4 0 0 e j) = vones (av m c) (ix4 (pb t) (pg t) e j) := by
  show (V m c main_v10 : FVec Ideal S16x2x128x4096 .bf16) ((win0_3.blk t).view.emb (ix4 0 0 e j)) = _
  rw [emb3, host3]

/-- The loads through the window's rectangle. -/
theorem ld2 (i : grid0.Coords) (X : Vec Ideal S1x1x4096x64 .bf16) (inb) (n : Fin 384) (e : Fin 64) :
    (View.ld X (Rect.unit (s := S1x1x4096x64) (k0_off1 i) ![1, 1, 384, 64] inb) : Vec Ideal S1x1x384x64 .bf16) (ix4 0 0 n e) = X (ix4 0 0 (key (ws i) (ws_lt i) n) e) := by
  refine View.ld_unit_apply_of X _ _ inb (ix4 0 0 n e : S1x1x384x64.Idx) _ fun a => ?_
  refine Eq.trans ?_ (congrArg (· + _) (congrFun (off1_eq i) a).symm)
  fin_cases a <;> simp [key]

theorem ld3 (i : grid0.Coords) (X : Vec Ideal S1x1x128x4096 .bf16) (inb) (n : Fin 384) (e : Fin 128) :
    (View.ld X (Rect.unit (s := S1x1x128x4096) (k0_off3 i) ![1, 1, 128, 384] inb) : Vec Ideal S1x1x128x384 .bf16) (ix4 0 0 e n) = X (ix4 0 0 e (key (ws i) (ws_lt i) n)) := by
  refine View.ld_unit_apply_of X _ _ inb (ix4 0 0 e n : S1x1x128x384.Idx) _ fun a => ?_
  refine Eq.trans ?_ (congrArg (· + _) (congrFun (off3_eq i) a).symm)
  fin_cases a <;> simp [key]

theorem ld0 (t : Fin cfg0.N) (X : Vec Ideal S16 .f32) (h : Fin 8) (w : BitVec 32) (hw : w = BitVec.ofNat 32 h.val) (inb) (x) :
    View.ld X (Rect.unit (s := S16) (k0_off2 (grid0.coords t) w) ![1] inb) x = X (ix1 (hd (pg t) h)) := by
  subst hw
  refine View.ld_unit_apply_of X _ _ inb x _ fun a => ?_
  refine Eq.trans ?_ (congrArg (· + _) (congrFun (off2_eq (grid0.coords t) h) a).symm)
  have hx : (x a).val = 0 := by
    have := (x a).isLt
    fin_cases a
    exact Nat.lt_one_iff.mp this
  rw [hx]
  fin_cases a
  rfl

/-- The sinks, as loaded. -/
def sinks (t : Fin cfg0.N) (h : Fin 8) : EReal := (iblk m c 0 t : FVec Ideal S16 .f32) (ix1 (hd (pg t) h))

theorem outs_eq (t : Fin cfg0.N) : outsAt0 m c t
    = body (grid0.coords t) (sinks m c t) (iblk m c 1 t : FVec Ideal S1x8x256x64 .bf16)
      (View.ld (iblk m c 2 t : FVec Ideal S1x1x4096x64 .bf16) (Rect.unit (s := S1x1x4096x64) (k0_off1 (grid0.coords t)) ![1, 1, 384, 64] (by
        rw [off1_eq]; have := ws_lt (grid0.coords t); intro a; fin_cases a <;> simp <;> omega)))
      (View.ld (iblk m c 3 t : FVec Ideal S1x1x128x4096 .bf16) (Rect.unit (s := S1x1x128x4096) (k0_off3 (grid0.coords t)) ![1, 1, 128, 384] (by
        rw [off3_eq]; have := ws_lt (grid0.coords t); intro a; fin_cases a <;> simp <;> omega))) := by
  unfold outsAt0
  frame_out
  rw [ld0 t _ 0 0#32 rfl, ld0 t _ 1 1#32 rfl, ld0 t _ 2 2#32 rfl, ld0 t _ 3 3#32 rfl, ld0 t _ 4 4#32 rfl, ld0 t _ 5 5#32 rfl, ld0 t _ 6 6#32 rfl, ld0 t _ 7 7#32 rfl]
  rfl

theorem outs_at (t : Fin cfg0.N) (r : Fin 256) (h : Fin 8) (d : Fin 64) :
    outsAt0 m c t (ix3 0 r (oc h d)) = ReferenceIdeal.Read.val_main_v42 (F := Ideal) (aq m c) (ak m c) (av m c) (ask m c)
      ((win0_4.blk t).view.emb (ix3 0 r (oc h d))) := by
  rw [outs_eq, emb4]
  refine (body_at (aq m c) (ak m c) (av m c) (ask m c) (grid0.coords t) (pa t) rfl (pb t) (pg t) _ _ _ _ ?_ ?_ ?_ ?_ ?_ r h d).trans
    (ref_at (aq m c) (ak m c) (av m c) (ask m c) (pb t) (qt (pa t) r) (pg t) h d).symm
  · intro h; exact ib0 m c t _
  · intro h r e; exact ib1 m c t h r e
  · intro n e; rw [ld2]; exact ib2 m c t _ e
  · intro n d; rw [ld3, ib3, vones_val]
  · intro n; rw [ld3, ib3, vones_one]

theorem final : (dats m 0 c).arrAt 4 cfg0.N = ReferenceIdeal.Read.val_main_v42 (F := Ideal) (aq m c) (ak m c) (av m c) (ask m c) := by
  refine (dats m 0 c).arrAt_eq_of_covers 4 _ (by decide +kernel) fun t _ y => ?_
  blk_simp
  rw [after0_4]
  obtain ⟨r, h, d, rfl⟩ : ∃ (r : Fin 256) (h : Fin 8) (d : Fin 64), y = ix3 0 r (oc h d) := by
    have h1 : (y 1).val < 256 := (y 1).isLt
    have h2 : (y 2).val < 512 := (y 2).isLt
    refine ⟨y 1, ⟨(y 2).val / 64, by omega⟩, ⟨(y 2).val % 64, by omega⟩, ?_⟩
    funext a
    fin_cases a
    · exact Subsingleton.elim (α := Fin 1) _ _
    · rfl
    · refine Fin.ext ?_
      show (y 2).val = (y 2).val / 64 * 64 + (y 2).val % 64
      omega
  exact outs_at m c t r h d

end Cert.Swa
-- ==== Proof.lean ====
module

public import proofs.«01_k».proof.Proof.Gen.Kernel2
public import proofs.«01_k».proof.Proof.Gen.Kernel2Ideal
public import proofs.«01_k».proof.Proof.Gen.Kernel2Ideal.Launch

public import proofs.«01_k».proof.Proof.Gen.Kernel2Ideal.Skeleton
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal.Run
public import proofs.«01_k».proof.Proof.Gen.Reference4Ideal.Read
public import proofs.«01_k».proof.Defs
public import proofs.«01_k».proof.Proof.MoeAlg
public import proofs.«01_k».proof.Proof.Same
public import proofs.«01_k».proof.Proof.Same4
public import proofs.«01_k».proof.Proof.InProj
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.SwaArr
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem preserves : Cert.preserves_Kernel_KernelIdeal :=
  IdealRules.named_const.statement Cert.KernelIdeal.κ "mask" .f32 0xF149F2CA#32 ⊥ rfl

/-- The attention's values. -/
theorem algebraic : Cert.algebraic_KernelIdeal_ReferenceIdeal := by
  pair_intro
  · run_from Cert.KernelIdeal.Gen.run_main m g
  · run_from Cert.ReferenceIdeal.Value.run m' g'
    rw [Cert.ReferenceIdeal.Read.val_main_v42_eq]
    obtain ⟨h0, h1, h2, h3⟩ := hagree c
    rw [h0, h1, h2, h3]
    exact (Cert.Swa.final m c).symm

theorem reference2_frame : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

theorem reference3_frame : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The projection's values. -/
theorem algebraic3 : Cert.algebraic_Kernel3Ideal_Reference3Ideal := by
  pair_intro
  · run_from Cert.Kernel3Ideal.Gen.run_main m g
  · run_from Cert.Reference3Ideal.Value.run m' g'
    rw [Cert.Reference3Ideal.Read.val_main_v2_eq]
    exact (Cert.Proj.final m c).symm

theorem reference4_frame : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- The input projection's values. -/
theorem algebraic4 : Cert.algebraic_Kernel4Ideal_Reference4Ideal := by
  pair_intro
  · run_from Cert.Kernel4Ideal.Gen.run_main m g
  · run_from Cert.Reference4Ideal.Value.run m' g'
    rw [Cert.Reference4Ideal.Read.val_main_v23_eq]
    have h := hagree c
    first
      | rw [h.1, h.2.1, h.2.2.1]
      | rw [← h.1, ← h.2.1, ← h.2.2.1]
    exact (Cert.InProj.final m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m g _ => Cert.Kernel.Gen.frame m g, fun m g _ => Cert.KernelIdeal.Gen.frame m g, reference_frame,
  Cert.Same.frame2, fun m g _ => Cert.Kernel2Ideal.Moe.frame m g (Cert.Kernel2Ideal.Moe.ok m), reference2_frame,
  Cert.Same.frame3, fun m g _ => Cert.Kernel3Ideal.Gen.frame m g, reference3_frame,
  Cert.Same.frame4, fun m g _ => Cert.Kernel4Ideal.Gen.frame m g, reference4_frame,
  preserves, algebraic, trivial, Cert.Kernel2Ideal.Moe.algebraic2, trivial, algebraic3, trivial, algebraic4⟩

end Cert.Proof

end
